-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 64]⟩ ⟨2, ![1024, 256]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![64, 1024]⟩ ⟨2, ![256, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![64, 1024]⟩ ⟨2, ![256, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S512x2048 : Shape := ⟨2, ![512, 2048]⟩
abbrev S3x512x256 : Shape := ⟨3, ![3, 512, 256]⟩
abbrev S4x512x128 : Shape := ⟨3, ![4, 512, 128]⟩
abbrev S8x3 : Shape := ⟨2, ![8, 3]⟩
abbrev S_ : Shape := ⟨0, ![]⟩
abbrev S512x1024 : Shape := ⟨2, ![512, 1024]⟩
abbrev S512x64 : Shape := ⟨2, ![512, 64]⟩
abbrev S512x256 : Shape := ⟨2, ![512, 256]⟩
abbrev S1x512x256 : Shape := ⟨3, ![1, 512, 256]⟩
abbrev S1x1 : Shape := ⟨2, ![1, 1]⟩
abbrev S1024x256 : Shape := ⟨2, ![1024, 256]⟩
abbrev S1024x128 : Shape := ⟨2, ![1024, 128]⟩
abbrev S512x128 : Shape := ⟨2, ![512, 128]⟩
abbrev S512x32 : Shape := ⟨2, ![512, 32]⟩
abbrev S256x32 : Shape := ⟨2, ![256, 32]⟩
abbrev S256x256 : Shape := ⟨2, ![256, 256]⟩
abbrev S256x64 : Shape := ⟨2, ![256, 64]⟩
abbrev S256 : Shape := ⟨1, ![256]⟩
abbrev S256x1 : Shape := ⟨2, ![256, 1]⟩
abbrev S1x256x64 : Shape := ⟨3, ![1, 256, 64]⟩
abbrev S1x512x128 : Shape := ⟨3, ![1, 512, 128]⟩
abbrev S128x1024 : Shape := ⟨2, ![128, 1024]⟩

abbrev nBuf : Space → Nat
  | .hbm => 9
  | .vmem => 16
  | .smem => 0
  | _ => 0

abbrev bufTy : (tb : Table) → Fin (tcTables nBuf tb) → BufTy
  | .hbm, ⟨0, _⟩ => ⟨S2x256x1024, .bf16⟩
  | .hbm, ⟨1, _⟩ => ⟨S1024x64, .bf16⟩
  | .hbm, ⟨2, _⟩ => ⟨S64x1024, .bf16⟩
  | .hbm, ⟨3, _⟩ => ⟨S64x1024, .bf16⟩
  | .hbm, ⟨4, _⟩ => ⟨S1024x1024, .bf16⟩
  | .hbm, ⟨5, _⟩ => ⟨S1024x512, .bf16⟩
  | .hbm, ⟨6, _⟩ => ⟨S1024x32, .bf16⟩
  | .hbm, ⟨7, _⟩ => ⟨S1024x1024, .bf16⟩
  | .hbm, ⟨8, _⟩ => ⟨S2x256x1024, .f32⟩
  | .local _ .vmem, ⟨0, _⟩ => ⟨S2x256x1024, .bf16⟩
  | .local _ .vmem, ⟨1, _⟩ => ⟨S1024x64, .bf16⟩
  | .local _ .vmem, ⟨2, _⟩ => ⟨S64x1024, .bf16⟩
  | .local _ .vmem, ⟨3, _⟩ => ⟨S64x1024, .bf16⟩
  | .local _ .vmem, ⟨4, _⟩ => ⟨S1024x1024, .bf16⟩
  | .local _ .vmem, ⟨5, _⟩ => ⟨S1024x512, .bf16⟩
  | .local _ .vmem, ⟨6, _⟩ => ⟨S1024x32, .bf16⟩
  | .local _ .vmem, ⟨7, _⟩ => ⟨S1024x1024, .bf16⟩
  | .local _ .vmem, ⟨8, _⟩ => ⟨S2x256x1024, .f32⟩
  | .local _ .vmem, ⟨9, _⟩ => ⟨S512x2048, .bf16⟩
  | .local _ .vmem, ⟨10, _⟩ => ⟨S3x512x256, .bf16⟩
  | .local _ .vmem, ⟨11, _⟩ => ⟨S3x512x256, .bf16⟩
  | .local _ .vmem, ⟨12, _⟩ => ⟨S3x512x256, .bf16⟩
  | .local _ .vmem, ⟨13, _⟩ => ⟨S3x512x256, .bf16⟩
  | .local _ .vmem, ⟨14, _⟩ => ⟨S4x512x128, .bf16⟩
  | .local _ .vmem, ⟨15, _⟩ => ⟨S4x512x128, .bf16⟩
  | _, _ => ⟨S2x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) (c1_i32_34 : BitVec 32) : Fin 2 → Nat :=
  let c0_41 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_33 : BitVec 32 := 4#32
  let v52 : BitVec 32 := Scalar.addi v2 c4_i32_33
  let v53 : BitVec 32 := Scalar.subi v52 c1_i32_34
  let c4_i32_35 : BitVec 32 := 4#32
  let c0_i32_36 : BitVec 32 := 0#32
  let v54 : BitVec 1 := Scalar.cmpi .eq c4_i32_35 c0_i32_36
  let c1_i32_37 : BitVec 32 := 1#32
  let v55 : BitVec 32 := Scalar.select v54 c1_i32_37 c4_i32_35
  let v56 : BitVec 32 := Scalar.remsi v53 v55
  let c0_i32_39 : BitVec 32 := 0#32
  let v58 : BitVec 1 := Scalar.cmpi .slt v56 c0_i32_39
  let c0_i32_40 : BitVec 32 := 0#32
  let v59 : BitVec 1 := Scalar.cmpi .slt v55 c0_i32_40
  let v60 : BitVec 1 := Scalar.xori v58 v59
  let c0_i32_38 : BitVec 32 := 0#32
  let v57 : BitVec 1 := Scalar.cmpi .ne v56 c0_i32_38
  let v61 : BitVec 1 := Scalar.andi v60 v57
  let v62 : BitVec 32 := Scalar.addi v56 v55
  let v63 : BitVec 32 := Scalar.select v61 v62 v56
  let c256_i32 : BitVec 32 := 256#32
  let v64 : BitVec 32 := Scalar.muli v63 c256_i32
  let v65 : Index := Scalar.indexCast v64
  ![0, v65.toNat]
def k0_off2 (d0 : Dev nD) (c1_i32_45 : BitVec 32) : Fin 2 → Nat :=
  let c0_53 : Index := 0#32
  let c1024_i32 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v70 : BitVec 32 := Scalar.addi v2 c1_i32_45
  let c4_i32_46 : BitVec 32 := 4#32
  let c0_i32_47 : BitVec 32 := 0#32
  let v71 : BitVec 1 := Scalar.cmpi .eq c4_i32_46 c0_i32_47
  let c1_i32_48 : BitVec 32 := 1#32
  let v72 : BitVec 32 := Scalar.select v71 c1_i32_48 c4_i32_46
  let v73 : BitVec 32 := Scalar.remsi v70 v72
  let c0_i32_50 : BitVec 32 := 0#32
  let v75 : BitVec 1 := Scalar.cmpi .slt v73 c0_i32_50
  let c0_i32_51 : BitVec 32 := 0#32
  let v76 : BitVec 1 := Scalar.cmpi .slt v72 c0_i32_51
  let v77 : BitVec 1 := Scalar.xori v75 v76
  let c0_i32_49 : BitVec 32 := 0#32
  let v74 : BitVec 1 := Scalar.cmpi .ne v73 c0_i32_49
  let v78 : BitVec 1 := Scalar.andi v77 v74
  let v79 : BitVec 32 := Scalar.addi v73 v72
  let v80 : BitVec 32 := Scalar.select v78 v79 v73
  let c256_i32_52 : BitVec 32 := 256#32
  let v81 : BitVec 32 := Scalar.muli v80 c256_i32_52
  let v82 : BitVec 32 := Scalar.addi c1024_i32 v81
  let v83 : Index := Scalar.indexCast v82
  ![0, v83.toNat]
def k0_dev3 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_63 : BitVec 32 := 1#32
  let v88 : BitVec 32 := Scalar.muli v25 c1_i32_63
  let v89 : BitVec 32 := Scalar.addi c0_i32_64 v88
  v89.toNat
def k0_dev4 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_74 : BitVec 32 := 1#32
  let v98 : BitVec 32 := Scalar.muli v14 c1_i32_74
  let v99 : BitVec 32 := Scalar.addi c0_i32_75 v98
  v99.toNat
def k0_off3 (d0 : Dev nD) : Fin 2 → Nat :=
  let c0_81 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_80 : BitVec 32 := 256#32
  let v108 : BitVec 32 := Scalar.muli v2 c256_i32_80
  let v109 : Index := Scalar.indexCast v108
  ![0, v109.toNat]
def k0_off4 (d0 : Dev nD) : Fin 2 → Nat :=
  let c0_83 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32 : BitVec 32 := 128#32
  let v114 : BitVec 32 := Scalar.muli v2 c128_i32
  let v115 : Index := Scalar.indexCast v114
  ![0, v115.toNat]
def k0_dev5 (d0 : Dev nD) : Nat :=
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_171 : BitVec 32 := 1#32
  let v194 : BitVec 32 := Scalar.muli v25 c1_i32_171
  let v195 : BitVec 32 := Scalar.addi c0_i32_172 v194
  v195.toNat
def k0_dev6 (d0 : Dev nD) : Nat :=
  let c0_i32_184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_183 : BitVec 32 := 1#32
  let v204 : BitVec 32 := Scalar.muli v14 c1_i32_183
  let v205 : BitVec 32 := Scalar.addi c0_i32_184 v204
  v205.toNat
def k0_off5 (d0 : Dev nD) : Fin 2 → Nat :=
  let c0_254 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_246 : BitVec 32 := 1#32
  let v262 : BitVec 32 := Scalar.addi v2 c1_i32_246
  let c4_i32_247 : BitVec 32 := 4#32
  let c0_i32_248 : BitVec 32 := 0#32
  let v263 : BitVec 1 := Scalar.cmpi .eq c4_i32_247 c0_i32_248
  let c1_i32_249 : BitVec 32 := 1#32
  let v264 : BitVec 32 := Scalar.select v263 c1_i32_249 c4_i32_247
  let v265 : BitVec 32 := Scalar.remsi v262 v264
  let c0_i32_251 : BitVec 32 := 0#32
  let v267 : BitVec 1 := Scalar.cmpi .slt v265 c0_i32_251
  let c0_i32_252 : BitVec 32 := 0#32
  let v268 : BitVec 1 := Scalar.cmpi .slt v264 c0_i32_252
  let v269 : BitVec 1 := Scalar.xori v267 v268
  let c0_i32_250 : BitVec 32 := 0#32
  let v266 : BitVec 1 := Scalar.cmpi .ne v265 c0_i32_250
  let v270 : BitVec 1 := Scalar.andi v269 v266
  let v271 : BitVec 32 := Scalar.addi v265 v264
  let v272 : BitVec 32 := Scalar.select v270 v271 v265
  let c256_i32_253 : BitVec 32 := 256#32
  let v273 : BitVec 32 := Scalar.muli v272 c256_i32_253
  let v274 : Index := Scalar.indexCast v273
  ![0, v274.toNat]
def k0_off6 (d0 : Dev nD) : Fin 2 → Nat :=
  let c0_270 : Index := 0#32
  let c1024_i32_269 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_260 : BitVec 32 := 4#32
  let v282 : BitVec 32 := Scalar.addi v2 c4_i32_260
  let c1_i32_261 : BitVec 32 := 1#32
  let v283 : BitVec 32 := Scalar.subi v282 c1_i32_261
  let c4_i32_262 : BitVec 32 := 4#32
  let c0_i32_263 : BitVec 32 := 0#32
  let v284 : BitVec 1 := Scalar.cmpi .eq c4_i32_262 c0_i32_263
  let c1_i32_264 : BitVec 32 := 1#32
  let v285 : BitVec 32 := Scalar.select v284 c1_i32_264 c4_i32_262
  let v286 : BitVec 32 := Scalar.remsi v283 v285
  let c0_i32_266 : BitVec 32 := 0#32
  let v288 : BitVec 1 := Scalar.cmpi .slt v286 c0_i32_266
  let c0_i32_267 : BitVec 32 := 0#32
  let v289 : BitVec 1 := Scalar.cmpi .slt v285 c0_i32_267
  let v290 : BitVec 1 := Scalar.xori v288 v289
  let c0_i32_265 : BitVec 32 := 0#32
  let v287 : BitVec 1 := Scalar.cmpi .ne v286 c0_i32_265
  let v291 : BitVec 1 := Scalar.andi v290 v287
  let v292 : BitVec 32 := Scalar.addi v286 v285
  let v293 : BitVec 32 := Scalar.select v291 v292 v286
  let c256_i32_268 : BitVec 32 := 256#32
  let v294 : BitVec 32 := Scalar.muli v293 c256_i32_268
  let v295 : BitVec 32 := Scalar.addi c1024_i32_269 v294
  let v296 : Index := Scalar.indexCast v295
  ![0, v296.toNat]
def k0_dev7 (d0 : Dev nD) : Nat :=
  let c0_i32_281 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_280 : BitVec 32 := 1#32
  let v302 : BitVec 32 := Scalar.muli v25 c1_i32_280
  let v303 : BitVec 32 := Scalar.addi c0_i32_281 v302
  v303.toNat
def k0_dev8 (d0 : Dev nD) : Nat :=
  let c0_i32_293 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_292 : BitVec 32 := 1#32
  let v312 : BitVec 32 := Scalar.muli v14 c1_i32_292
  let v313 : BitVec 32 := Scalar.addi c0_i32_293 v312
  v313.toNat
def k0_off7 (d0 : Dev nD) : Fin 2 → Nat :=
  let c0_348 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_347 : BitVec 32 := 256#32
  let v352 : BitVec 32 := Scalar.muli v2 c256_i32_347
  let v353 : Index := Scalar.indexCast v352
  ![0, v353.toNat]
def k0_off8 (d0 : Dev nD) : Fin 2 → Nat :=
  let c0_354 : Index := 0#32
  let c1024_i32_353 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_352 : BitVec 32 := 256#32
  let v358 : BitVec 32 := Scalar.muli v2 c256_i32_352
  let v359 : BitVec 32 := Scalar.addi c1024_i32_353 v358
  let v360 : Index := Scalar.indexCast v359
  ![0, v360.toNat]
def k0_dev9 (d0 : Dev nD) : Nat :=
  let c0_i32_423 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_422 : BitVec 32 := 1#32
  let v539 : BitVec 32 := Scalar.muli v25 c1_i32_422
  let v540 : BitVec 32 := Scalar.addi c0_i32_423 v539
  v540.toNat
def k0_dev10 (d0 : Dev nD) : Nat :=
  let c0_i32_433 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_432 : BitVec 32 := 1#32
  let v549 : BitVec 32 := Scalar.muli v14 c1_i32_432
  let v550 : BitVec 32 := Scalar.addi c0_i32_433 v549
  v550.toNat
def k0_off9 (d0 : Dev nD) (c0_i32_442 : BitVec 32) (c0_i32_450 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_441 : BitVec 32 := 4#32
  let v561 : BitVec 32 := Scalar.addi v2 c4_i32_441
  let v562 : BitVec 32 := Scalar.subi v561 c0_i32_442
  let c4_i32_443 : BitVec 32 := 4#32
  let c0_i32_444 : BitVec 32 := 0#32
  let v563 : BitVec 1 := Scalar.cmpi .eq c4_i32_443 c0_i32_444
  let c1_i32_445 : BitVec 32 := 1#32
  let v564 : BitVec 32 := Scalar.select v563 c1_i32_445 c4_i32_443
  let v565 : BitVec 32 := Scalar.remsi v562 v564
  let c0_i32_447 : BitVec 32 := 0#32
  let v567 : BitVec 1 := Scalar.cmpi .slt v565 c0_i32_447
  let c0_i32_448 : BitVec 32 := 0#32
  let v568 : BitVec 1 := Scalar.cmpi .slt v564 c0_i32_448
  let v569 : BitVec 1 := Scalar.xori v567 v568
  let c0_i32_446 : BitVec 32 := 0#32
  let v566 : BitVec 1 := Scalar.cmpi .ne v565 c0_i32_446
  let v570 : BitVec 1 := Scalar.andi v569 v566
  let v571 : BitVec 32 := Scalar.addi v565 v564
  let v572 : BitVec 32 := Scalar.select v570 v571 v565
  let c256_i32_449 : BitVec 32 := 256#32
  let v573 : BitVec 32 := Scalar.muli v572 c256_i32_449
  let v574 : BitVec 32 := Scalar.addi v573 c0_i32_450
  let v575 : Index := Scalar.indexCast v574
  let c0_451 : Index := 0#32
  ![v575.toNat, 0]
def k0_off9_at (r : Fin 4) : BitVec 32 × BitVec 32 :=
  if r.val < 2 then
    if r.val < 1 then
      (0#32, 0#32)
    else
      (1#32, 0#32)
  else
    if r.val < 3 then
      (2#32, 0#32)
    else
      (1#32, 128#32)
def k0_off10 (d0 : Dev nD) (c0_i32_456 : BitVec 32) (c128_i32_464 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v581 : BitVec 32 := Scalar.addi v2 c0_i32_456
  let c4_i32_457 : BitVec 32 := 4#32
  let c0_i32_458 : BitVec 32 := 0#32
  let v582 : BitVec 1 := Scalar.cmpi .eq c4_i32_457 c0_i32_458
  let c1_i32_459 : BitVec 32 := 1#32
  let v583 : BitVec 32 := Scalar.select v582 c1_i32_459 c4_i32_457
  let v584 : BitVec 32 := Scalar.remsi v581 v583
  let c0_i32_461 : BitVec 32 := 0#32
  let v586 : BitVec 1 := Scalar.cmpi .slt v584 c0_i32_461
  let c0_i32_462 : BitVec 32 := 0#32
  let v587 : BitVec 1 := Scalar.cmpi .slt v583 c0_i32_462
  let v588 : BitVec 1 := Scalar.xori v586 v587
  let c0_i32_460 : BitVec 32 := 0#32
  let v585 : BitVec 1 := Scalar.cmpi .ne v584 c0_i32_460
  let v589 : BitVec 1 := Scalar.andi v588 v585
  let v590 : BitVec 32 := Scalar.addi v584 v583
  let v591 : BitVec 32 := Scalar.select v589 v590 v584
  let c256_i32_463 : BitVec 32 := 256#32
  let v592 : BitVec 32 := Scalar.muli v591 c256_i32_463
  let v593 : BitVec 32 := Scalar.addi v592 c128_i32_464
  let v594 : Index := Scalar.indexCast v593
  let c0_465 : Index := 0#32
  ![v594.toNat, 0]
def k0_off10_at (r : Fin 4) : BitVec 32 × BitVec 32 :=
  if r.val < 2 then
    if r.val < 1 then
      (0#32, 128#32)
    else
      (1#32, 128#32)
  else
    if r.val < 3 then
      (2#32, 128#32)
    else
      (1#32, 0#32)
def k0_dev11 (d0 : Dev nD) : Nat :=
  let c0_i32_520 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_519 : BitVec 32 := 1#32
  let v627 : BitVec 32 := Scalar.muli v25 c1_i32_519
  let v628 : BitVec 32 := Scalar.addi c0_i32_520 v627
  v628.toNat
def k0_dev12 (d0 : Dev nD) : Nat :=
  let c0_i32_532 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_531 : BitVec 32 := 1#32
  let v637 : BitVec 32 := Scalar.muli v14 c1_i32_531
  let v638 : BitVec 32 := Scalar.addi c0_i32_532 v637
  v638.toNat
def k0_dev13 (d0 : Dev nD) : Nat :=
  let c0_i32_619 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_618 : BitVec 32 := 1#32
  let v716 : BitVec 32 := Scalar.muli v25 c1_i32_618
  let v717 : BitVec 32 := Scalar.addi c0_i32_619 v716
  v717.toNat
def k0_dev14 (d0 : Dev nD) : Nat :=
  let c0_i32_631 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_630 : BitVec 32 := 1#32
  let v726 : BitVec 32 := Scalar.muli v14 c1_i32_630
  let v727 : BitVec 32 := Scalar.addi c0_i32_631 v726
  v727.toNat
abbrev stage0_0 : Fin 1 → Memref sig .tc .vmem S2x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S2x256x1024 : Shape := ⟨3, ![2, 256, 1024]⟩
abbrev S1024x256 : Shape := ⟨2, ![1024, 256]⟩
abbrev S256x1024 : Shape := ⟨2, ![256, 1024]⟩
abbrev S1024x1024 : Shape := ⟨2, ![1024, 1024]⟩
abbrev S1024x512 : Shape := ⟨2, ![1024, 512]⟩
abbrev S1024x32 : Shape := ⟨2, ![1024, 32]⟩
abbrev S2x256x256 : Shape := ⟨3, ![2, 256, 256]⟩
abbrev S2x256x16x64 : Shape := ⟨4, ![2, 256, 16, 64]⟩
abbrev S2x256x512 : Shape := ⟨3, ![2, 256, 512]⟩
abbrev S2x256x16x32 : Shape := ⟨4, ![2, 256, 16, 32]⟩
abbrev S2x256x32 : Shape := ⟨3, ![2, 256, 32]⟩
abbrev S2x256x1x32 : Shape := ⟨4, ![2, 256, 1, 32]⟩
abbrev S2x16x256x256 : Shape := ⟨4, ![2, 16, 256, 256]⟩
abbrev S_ : Shape := ⟨0, ![]⟩
abbrev S2x16x256 : Shape := ⟨3, ![2, 16, 256]⟩
abbrev S2x16x256x1 : Shape := ⟨4, ![2, 16, 256, 1]⟩
abbrev S2x16x64x256 : Shape := ⟨4, ![2, 16, 64, 256]⟩

abbrev nBuf : Space → Nat
  | .hbm => 49
  | .vmem => 0
  | .smem => 0
  | _ => 0

abbrev bufTy : (tb : Table) → Fin (tcTables nBuf tb) → BufTy
  | .hbm, ⟨0, _⟩ => ⟨S2x256x1024, .bf16⟩
  | .hbm, ⟨1, _⟩ => ⟨S1024x256, .bf16⟩
  | .hbm, ⟨2, _⟩ => ⟨S256x1024, .bf16⟩
  | .hbm, ⟨3, _⟩ => ⟨S256x1024, .bf16⟩
  | .hbm, ⟨4, _⟩ => ⟨S1024x1024, .bf16⟩
  | .hbm, ⟨5, _⟩ => ⟨S1024x512, .bf16⟩
  | .hbm, ⟨6, _⟩ => ⟨S1024x32, .bf16⟩
  | .hbm, ⟨7, _⟩ => ⟨S1024x1024, .bf16⟩
  | .hbm, ⟨8, _⟩ => ⟨S2x256x1024, .f32⟩
  | .hbm, ⟨9, _⟩ => ⟨S1024x256, .f32⟩
  | .hbm, ⟨10, _⟩ => ⟨S256x1024, .f32⟩
  | .hbm, ⟨11, _⟩ => ⟨S256x1024, .f32⟩
  | .hbm, ⟨12, _⟩ => ⟨S1024x1024, .f32⟩
  | .hbm, ⟨13, _⟩ => ⟨S1024x512, .f32⟩
  | .hbm, ⟨14, _⟩ => ⟨S1024x32, .f32⟩
  | .hbm, ⟨15, _⟩ => ⟨S1024x1024, .f32⟩
  | .hbm, ⟨16, _⟩ => ⟨S2x256x256, .f32⟩
  | .hbm, ⟨17, _⟩ => ⟨S2x256x1024, .f32⟩
  | .hbm, ⟨18, _⟩ => ⟨S2x256x16x64, .f32⟩
  | .hbm, ⟨19, _⟩ => ⟨S2x256x1024, .f32⟩
  | .hbm, ⟨20, _⟩ => ⟨S2x256x16x64, .f32⟩
  | .hbm, ⟨21, _⟩ => ⟨S2x256x1024, .f32⟩
  | .hbm, ⟨22, _⟩ => ⟨S2x256x16x64, .f32⟩
  | .hbm, ⟨23, _⟩ => ⟨S2x256x512, .f32⟩
  | .hbm, ⟨24, _⟩ => ⟨S2x256x16x32, .f32⟩
  | .hbm, ⟨25, _⟩ => ⟨S2x256x32, .f32⟩
  | .hbm, ⟨26, _⟩ => ⟨S2x256x1x32, .f32⟩
  | .hbm, ⟨27, _⟩ => ⟨S2x16x256x256, .f32⟩
  | .hbm, ⟨28, _⟩ => ⟨S2x256x16x32, .f32⟩
  | .hbm, ⟨29, _⟩ => ⟨S2x16x256x256, .f32⟩
  | .hbm, ⟨30, _⟩ => ⟨S2x16x256x256, .f32⟩
  | .hbm, ⟨31, _⟩ => ⟨S_, .f32⟩
  | .hbm, ⟨32, _⟩ => ⟨S2x16x256x256, .f32⟩
  | .hbm, ⟨33, _⟩ => ⟨S2x16x256x256, .f32⟩
  | .hbm, ⟨34, _⟩ => ⟨S_, .f32⟩
  | .hbm, ⟨35, _⟩ => ⟨S2x16x256, .f32⟩
  | .hbm, ⟨36, _⟩ => ⟨S2x16x256x1, .f32⟩
  | .hbm, ⟨37, _⟩ => ⟨S2x16x256x256, .f32⟩
  | .hbm, ⟨38, _⟩ => ⟨S2x16x256x256, .f32⟩
  | .hbm, ⟨39, _⟩ => ⟨S2x16x256x256, .f32⟩
  | .hbm, ⟨40, _⟩ => ⟨S_, .f32⟩
  | .hbm, ⟨41, _⟩ => ⟨S2x16x256, .f32⟩
  | .hbm, ⟨42, _⟩ => ⟨S2x16x256x1, .f32⟩
  | .hbm, ⟨43, _⟩ => ⟨S2x16x256x256, .f32⟩
  | .hbm, ⟨44, _⟩ => ⟨S2x16x256x256, .f32⟩
  | .hbm, ⟨45, _⟩ => ⟨S2x16x64x256, .f32⟩
  | .hbm, ⟨46, _⟩ => ⟨S2x256x16x64, .f32⟩
  | .hbm, ⟨47, _⟩ => ⟨S2x256x1024, .f32⟩
  | .hbm, ⟨48, _⟩ => ⟨S2x256x1024, .f32⟩
  | _, _ => ⟨S2x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Proof.RingI.Vals.lean ====
/-
The contents of the ring's buffers, as functions of the launch memory: what every device holds, sends and receives,
in the order the kernel computes it. A device's blocks are the staged windows of its own arguments; everything a
neighbour computed is named by that neighbour.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.VecWindow
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic
open Idealize.ShloMosaic.TcCoe

variable {F : FTy → Type} [FloatOps F]
variable (m : (ℓ : Loc nD τ sig) → Buf (Elt F) ℓ)

/-! ## The ring of four devices -/

/-- The device to the right. -/
def nxt (c : Dev nD) : Dev nD := ⟨(c.val + 1) % 4, Nat.mod_lt _ (by decide)⟩
/-- The device to the left. -/
def prv (c : Dev nD) : Dev nD := ⟨(c.val + 3) % 4, Nat.mod_lt _ (by decide)⟩

/-- The left neighbour of the right neighbour is the device itself, -/
theorem prv_nxt (c : Dev nD) : prv (nxt c) = c := by revert c; decide
/-- and the other way round. -/
theorem nxt_prv (c : Dev nD) : nxt (prv c) = c := by revert c; decide

/-- One step to the right, as a permutation of the devices. -/
def ring : Dev nD ≃ Dev nD := ⟨nxt, prv, prv_nxt, nxt_prv⟩

/-! ## The staged blocks -/

def xC (c : Dev nD) : (cc0_stg0_0 : Ref sig .tc).ty.Contents (Elt F) := iblk m c 0 t0_0
def wdC (c : Dev nD) : (cc0_stg1_0 : Ref sig .tc).ty.Contents (Elt F) := iblk m c 1 t0_0
def wkC (c : Dev nD) : (cc0_stg2_0 : Ref sig .tc).ty.Contents (Elt F) := iblk m c 2 t0_0
def wvC (c : Dev nD) : (cc0_stg3_0 : Ref sig .tc).ty.Contents (Elt F) := iblk m c 3 t0_0
def wqC (c : Dev nD) : (cc0_stg4_0 : Ref sig .tc).ty.Contents (Elt F) := iblk m c 4 t0_0
def wqrC (c : Dev nD) : (cc0_stg5_0 : Ref sig .tc).ty.Contents (Elt F) := iblk m c 5 t0_0
def wkrC (c : Dev nD) : (cc0_stg6_0 : Ref sig .tc).ty.Contents (Elt F) := iblk m c 6 t0_0
def woC (c : Dev nD) : (cc0_stg7_0 : Ref sig .tc).ty.Contents (Elt F) := iblk m c 7 t0_0

/-! ## What the body loads from them -/

def xV (c : Dev nD) : Vec F S2x256x1024 .bf16 :=
  (Memref.whole cc0_stg0_0).view.readAt (Elt F) (Rect.unit (s := S2x256x1024) ![0, 0, 0] S2x256x1024.size inb_S2x256x1024_S2x256x1024_0_0_0).toLoadRect (xC m c)
def wdV (c : Dev nD) : Vec F S1024x64 .bf16 :=
  (Memref.whole cc0_stg1_0).view.readAt (Elt F) (Rect.unit (s := S1024x64) ![0, 0] S1024x64.size inb_S1024x64_S1024x64_0_0).toLoadRect (wdC m c)
def wkV (c : Dev nD) : Vec F S64x1024 .bf16 :=
  (Memref.whole cc0_stg2_0).view.readAt (Elt F) (Rect.unit (s := S64x1024) ![0, 0] S64x1024.size inb_S64x1024_S64x1024_0_0).toLoadRect (wkC m c)
def wvV (c : Dev nD) : Vec F S64x1024 .bf16 :=
  (Memref.whole cc0_stg3_0).view.readAt (Elt F) (Rect.unit (s := S64x1024) ![0, 0] S64x1024.size inb_S64x1024_S64x1024_0_0).toLoadRect (wvC m c)
def wqV (c : Dev nD) : Vec F S1024x256 .bf16 :=
  (Memref.whole cc0_stg4_0).view.readAt (Elt F) (Rect.unit (s := S1024x1024) (k0_off3 c) S1024x256.size (k0_off3_inb c)).toLoadRect (wqC m c)
def wqrV (c : Dev nD) : Vec F S1024x128 .bf16 :=
  (Memref.whole cc0_stg5_0).view.readAt (Elt F) (Rect.unit (s := S1024x512) (k0_off4 c) S1024x128.size (k0_off4_inb c)).toLoadRect (wqrC m c)
def wkrV (c : Dev nD) : Vec F S1024x32 .bf16 :=
  (Memref.whole cc0_stg6_0).view.readAt (Elt F) (Rect.unit (s := S1024x32) ![0, 0] S1024x32.size inb_S1024x32_S1024x32_0_0).toLoadRect (wkrC m c)
/-- The rows of the output projection at an offset. -/
def woV (c : Dev nD) (off : Fin 2 → ℕ) (inb : ∀ a, off a + S128x1024.size a ≤ S1024x1024.size a) : Vec F S128x1024 .bf16 :=
  (Memref.whole cc0_stg7_0).view.readAt (Elt F) (Rect.unit (s := S1024x1024) off S128x1024.size inb).toLoadRect (woC m c)

/-! ## The two reduce-scatter rings -/

/-- The device's share of all keys and of all values. -/
def pK (c : Dev nD) : Vec F S512x1024 .bf16 := k0_pay4 (xV m c) (wdV m c) (wkV m c)
def pV (c : Dev nD) : Vec F S512x1024 .bf16 := k0_pay5 (xV m c) (wdV m c) (wvV m c)

/-- A column chunk is within the partial sums. -/
theorem chunk_inb (j : Dev nD) (a : Fin S512x1024.rank) : (![0, 256 * j.val] : Fin 2 → ℕ) a + S512x256.size a ≤ S512x1024.size a := by
  revert j a; decide

/-- The columns of head group `j`. -/
def kch (p : Vec F S512x1024 .bf16) (j : Dev nD) : Vec F S512x256 .bf16 :=
  VecWindow.window p ![0, 256 * j.val] S512x256.size (chunk_inb j)

/-- What device `c` sends to the right at step `t`: partial key sums. -/
def KS : ℕ → Dev nD → Vec F S1x512x256 .bf16
  | 0, c => k0_pay6 (kch (pK m c) (prv c))
  | 1, c => k0_pay11 (KS 0 (prv c)) (kch (pK m c) (prv (prv c)))
  | t + 2, c => k0_pay24 (KS (t + 1) (prv c)) (kch (pK m c) (nxt c))
/-- What device `c` sends to the left at step `t`: partial value sums. -/
def VS : ℕ → Dev nD → Vec F S1x512x256 .bf16
  | 0, c => k0_pay7 (kch (pV m c) (nxt c))
  | 1, c => k0_pay13 (k0_pay12 (VS 0 (nxt c))) (kch (pV m c) (nxt (nxt c)))
  | t + 2, c => k0_pay26 (k0_pay25 (VS (t + 1) (nxt c))) (kch (pV m c) (prv c))

/-- The last box the device receives in either ring, and its own chunks. -/
def kIn (c : Dev nD) : Vec F S1x512x256 .bf16 := KS m 2 (prv c)
def vIn (c : Dev nD) : Vec F S1x512x256 .bf16 := VS m 2 (nxt c)
def kOwn (c : Dev nD) : Vec F S512x256 .bf16 := kch (pK m c) c
def vOwn (c : Dev nD) : Vec F S512x256 .bf16 := kch (pV m c) c
/-- The summed keys and values of the device's own head group. -/
def kMy (c : Dev nD) : Vec F S512x256 .bf16 := k0_pay27 (kIn m c) (kOwn m c)
def vMy (c : Dev nD) : Vec F S512x256 .bf16 := k0_pay28 (vIn m c) (vOwn m c)

/-! ## The attention of the device's four heads -/

def qV (c : Dev nD) : Vec F S512x256 .bf16 := k0_pay8 (k0_pay2 (xV m c)) (wqV m c)
def qrV (c : Dev nD) : Vec F S512x128 .bf16 := k0_pay9 (k0_pay2 (xV m c)) (wqrV m c)
def krV (c : Dev nD) : Vec F S512x32 .bf16 := k0_pay10 (k0_pay2 (xV m c)) (wkrV m c)

/-- The rotary scores, by batch entry and head. -/
def s00 (c : Dev nD) : Vec F S256x256 .f32 := k0_pay15 (qrV m c) (krV m c)
def s01 (c : Dev nD) : Vec F S256x256 .f32 := k0_pay16 (qrV m c) (krV m c)
def s02 (c : Dev nD) : Vec F S256x256 .f32 := k0_pay17 (qrV m c) (krV m c)
def s03 (c : Dev nD) : Vec F S256x256 .f32 := k0_pay18 (qrV m c) (krV m c)
def s10 (c : Dev nD) : Vec F S256x256 .f32 := k0_pay20 (qrV m c) (krV m c)
def s11 (c : Dev nD) : Vec F S256x256 .f32 := k0_pay21 (qrV m c) (krV m c)
def s12 (c : Dev nD) : Vec F S256x256 .f32 := k0_pay22 (qrV m c) (krV m c)
def s13 (c : Dev nD) : Vec F S256x256 .f32 := k0_pay23 (qrV m c) (krV m c)

/-- The head outputs, by batch entry and head. -/
def o00 (c : Dev nD) : Vec F S1x256x64 .bf16 :=
  k0_pay31 (vMy m c) (k0_pay29 (qV m c) (s00 m c) (kIn m c) (kOwn m c)) (k0_pay30 (qV m c) (s00 m c) (kIn m c) (kOwn m c))
def o01 (c : Dev nD) : Vec F S1x256x64 .bf16 := k0_pay32 (qV m c) (s01 m c) (kMy m c) (vMy m c)
def o02 (c : Dev nD) : Vec F S1x256x64 .bf16 :=
  k0_pay35 (vMy m c) (k0_pay33 (qV m c) (s02 m c) (kMy m c)) (k0_pay34 (qV m c) (s02 m c) (kMy m c))
def o03 (c : Dev nD) : Vec F S1x256x64 .bf16 := k0_pay36 (qV m c) (s03 m c) (kMy m c) (vMy m c)
def o10 (c : Dev nD) : Vec F S1x256x64 .bf16 := k0_pay38 (vMy m c) (k0_pay37 (qV m c) (s10 m c) (kMy m c))
def o11 (c : Dev nD) : Vec F S1x256x64 .bf16 := k0_pay39 (qV m c) (s11 m c) (kMy m c) (vMy m c)
def o12 (c : Dev nD) : Vec F S1x256x64 .bf16 :=
  k0_pay42 (vMy m c) (k0_pay40 (qV m c) (s12 m c) (kMy m c)) (k0_pay41 (qV m c) (s12 m c) (kMy m c))
def o13 (c : Dev nD) : Vec F S1x256x64 .bf16 := k0_pay43 (qV m c) (s13 m c) (kMy m c) (vMy m c)

/-- The position within its head's 256 by 64 tile. -/
def gluePos (y : S1x512x128.Idx) : S1x256x64.Idx := fun a =>
  ⟨(y a).val % S1x256x64.size a, Nat.mod_lt _ (by revert a; decide)⟩

/-- Four head outputs side by side: two batch entries by two heads. -/
def glue (p00 p01 p10 p11 : Vec F S1x256x64 .bf16) : Vec F S1x512x128 .bf16 := fun y =>
  let z : S1x256x64.Idx := gluePos y
  if (y 1).val < 256 then (if (y 2).val < 64 then p00 z else p01 z) else (if (y 2).val < 64 then p10 z else p11 z)

/-- The two boxes of head outputs a device contributes. -/
def OR (c : Dev nD) : Vec F S1x512x128 .bf16 := glue (o00 m c) (o01 m c) (o10 m c) (o11 m c)
def OL (c : Dev nD) : Vec F S1x512x128 .bf16 := glue (o02 m c) (o03 m c) (o12 m c) (o13 m c)

/-! ## The two all-gather rings and the output projection -/

/-- What slot `t` of the right-going ring holds on `c`: the box of the device `t` steps to the left. -/
def agR (m : (ℓ : Loc nD τ sig) → Buf (Elt F) ℓ) : ℕ → Dev nD → Vec F S1x512x128 .bf16
  | 0, c => OR m c
  | t + 1, c => agR m t (prv c)
/-- What slot `t` of the left-going ring holds on `c`: the box of the device `t` steps to the right. -/
def agL (m : (ℓ : Loc nD τ sig) → Buf (Elt F) ℓ) : ℕ → Dev nD → Vec F S1x512x128 .bf16
  | 0, c => OL m c
  | t + 1, c => agL m t (nxt c)

/-- The rows of the output projection the body multiplies by, at step `t`: of the right-going and of the left-going box. -/
def woR0 (c : Dev nD) : Vec F S128x1024 .bf16 := woV m c (k0_off9 c 0#32 0#32) (k0_off9_inb c 0)
def woL0 (c : Dev nD) : Vec F S128x1024 .bf16 := woV m c (k0_off10 c 0#32 128#32) (k0_off10_inb c 0)
def woR1 (c : Dev nD) : Vec F S128x1024 .bf16 := woV m c (k0_off9 c 1#32 0#32) (k0_off9_inb c 1)
def woL1 (c : Dev nD) : Vec F S128x1024 .bf16 := woV m c (k0_off10 c 1#32 128#32) (k0_off10_inb c 1)
def woR2 (c : Dev nD) : Vec F S128x1024 .bf16 := woV m c (k0_off9 c 2#32 0#32) (k0_off9_inb c 2)
def woL2 (c : Dev nD) : Vec F S128x1024 .bf16 := woV m c (k0_off10 c 2#32 128#32) (k0_off10_inb c 2)
def woR3 (c : Dev nD) : Vec F S128x1024 .bf16 := woV m c (k0_off10 c 1#32 0#32) (k0_off10_inb c 3)
def woL3 (c : Dev nD) : Vec F S128x1024 .bf16 := woV m c (k0_off9 c 1#32 128#32) (k0_off9_inb c 3)

/-- The running sum of the output projection. -/
def acc1 (c : Dev nD) : Vec F S512x1024 .f32 := k0_pay45 (k0_pay44 (agR m 0 c)) (woR0 m c) (agL m 0 c) (woL0 m c)
def acc2 (c : Dev nD) : Vec F S512x1024 .f32 := k0_pay47 (acc1 m c) (k0_pay46 (agR m 1 c)) (woR1 m c) (agL m 1 c) (woL1 m c)
def acc3 (c : Dev nD) : Vec F S512x1024 .f32 :=
  k0_pay50 (acc2 m c) (k0_pay48 (agR m 2 c) (woR2 m c)) (k0_pay49 (agL m 2 c)) (woL2 m c)
def acc4 (c : Dev nD) : Vec F S512x1024 .f32 := k0_pay52 (acc3 m c) (k0_pay51 (agR m 3 c)) (woR3 m c)
/-- The output every device writes. -/
def outV (c : Dev nD) : Vec F S2x256x1024 .f32 := k0_pay1 (acc4 m c) (k0_pay53 (agL m 3 c)) (woL3 m c)

end Cert.KernelIdeal.Ring
-- ==== Proof.RingI.Setup.lean ====
/-
The protocol of the ring kernel: the semaphore cells, what each hands over, what each device owes, and the levels its
waits are ordered by.

Every device has one entry barrier cell and twenty-four transfer cells, eight rows of three steps: rows 0 and 1 send and receive the keys (to the right), rows 2 and 3 the values (to
the left), rows 4 and 5 the right-going boxes of head outputs, rows 6 and 7 the left-going ones. At the barrier each
neighbour hands over the slots its transfers will fill. A send cell hands its source box back; a receive cell hands
the filled box, with its contents.
-/
module

public import proofs.«01_k».proof.Proof.RingI.Vals

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

abbrev 𝒱₀ : Variants := Variants.none

/-! ## The buffers and their slots -/

abbrev kvM : Memref sig .tc .vmem S512x2048 .bf16 := Memref.whole cc0_scratch0
abbrev ksM : Memref sig .tc .vmem S3x512x256 .bf16 := Memref.whole cc0_scratch1
abbrev krM : Memref sig .tc .vmem S3x512x256 .bf16 := Memref.whole cc0_scratch2
abbrev vsM : Memref sig .tc .vmem S3x512x256 .bf16 := Memref.whole cc0_scratch3
abbrev vrM : Memref sig .tc .vmem S3x512x256 .bf16 := Memref.whole cc0_scratch4
abbrev arM : Memref sig .tc .vmem S4x512x128 .bf16 := Memref.whole cc0_scratch5
abbrev alM : Memref sig .tc .vmem S4x512x128 .bf16 := Memref.whole cc0_scratch6

abbrev rk0 : Rect S3x512x256 := Rect.unit (s := S3x512x256) ![0, 0, 0] S1x512x256.size inb_S3x512x256_S1x512x256_0_0_0
abbrev rk1 : Rect S3x512x256 := Rect.unit (s := S3x512x256) ![1, 0, 0] S1x512x256.size inb_S3x512x256_S1x512x256_1_0_0
abbrev rk2 : Rect S3x512x256 := Rect.unit (s := S3x512x256) ![2, 0, 0] S1x512x256.size inb_S3x512x256_S1x512x256_2_0_0
abbrev ra0 : Rect S4x512x128 := Rect.unit (s := S4x512x128) ![0, 0, 0] S1x512x128.size inb_S4x512x128_S1x512x128_0_0_0
abbrev ra1 : Rect S4x512x128 := Rect.unit (s := S4x512x128) ![1, 0, 0] S1x512x128.size inb_S4x512x128_S1x512x128_1_0_0
abbrev ra2 : Rect S4x512x128 := Rect.unit (s := S4x512x128) ![2, 0, 0] S1x512x128.size inb_S4x512x128_S1x512x128_2_0_0
abbrev ra3 : Rect S4x512x128 := Rect.unit (s := S4x512x128) ![3, 0, 0] S1x512x128.size inb_S4x512x128_S1x512x128_3_0_0

/-- A box of a device's buffer, held at a share, reading `Y`. -/
def box {sB : Shape} {e : EltTy} (c : Dev nD) (M : Memref sig .tc .vmem sB e) (r : Rect sB) (q : PosShare TreeShare)
    (Y : r.shape.Idx → Elt F e) : sProp 𝕄 :=
  iprop(∃ f : Buf (Elt F) (M.view.loc (c : Thread nD τ)), ⌜M.view.readAt (Elt F) r.toLoadRect f = Y⌝
    ∗ (M.view.loc (c : Thread nD τ) ↦[(M.access r).set]{q} f))

/-- A box of a device's buffer, held outright, with any contents. -/
def boxAny {sB : Shape} {e : EltTy} (c : Dev nD) (M : Memref sig .tc .vmem sB e) (r : Rect sB) : sProp 𝕄 :=
  iprop(∃ f : Buf (Elt F) (M.view.loc (c : Thread nD τ)), (M.view.loc (c : Thread nD τ) ↦[(M.access r).set]{fullShare} f))

/-- The two halves a box is held at while it is sent. -/
abbrev hL : PosShare TreeShare := fullShare.left
abbrev hR : PosShare TreeShare := fullShare.right

instance {sB : Shape} {e : EltTy} (c : Dev nD) (M : Memref sig .tc .vmem sB e) (r : Rect sB) (q : PosShare TreeShare)
    (Y : r.shape.Idx → Elt F e) : BI.Storable (upEmb : UEmb _ 𝕄) (box c M r q Y) := by unfold box; infer_instance
instance {sB : Shape} {e : EltTy} (c : Dev nD) (M : Memref sig .tc .vmem sB e) (r : Rect sB) :
    BI.Storable (upEmb : UEmb _ 𝕄) (boxAny (F := F) c M r) := by unfold boxAny; infer_instance

/-! ## The cells -/

/-- The entry barrier. -/
abbrev barS : Sem sig := (SemArray.scalar (sig.barrier 0 rfl) : Sems sig S_).sem
/-- The transfer semaphores, row by row. -/
def xs (k : Fin 24) : DmaSem sig := ⟨9 + k.val, by have := k.isLt; show _ < 33; omega⟩
abbrev barCell (c : Dev nD) : GSem nD τ sig := ((c : Thread nD τ), .reg barS)
abbrev xCell (c : Dev nD) (k : Fin 24) : GSem nD τ sig := ((c : Thread nD τ), .dma (xs k))

/-- The transfers in program order: the keys' and values' three steps, then the two gathers' three steps. -/
def sIx (i : Fin 12) : Fin 24 := ![0, 6, 1, 7, 2, 8, 12, 18, 13, 19, 14, 20] i
def rIx (i : Fin 12) : Fin 24 := ![3, 9, 4, 10, 5, 11, 15, 21, 16, 22, 17, 23] i
/-- Even transfers go to the right, odd ones to the left. -/
def tgt (i : Fin 12) (c : Dev nD) : Dev nD := if i.val % 2 = 0 then nxt c else prv c

/-- The units a transfer of a key or value box, and of a box of head outputs, credits. -/
def NR : ℕ := ((krM.slice rk0 (fun _ => rfl)).squeeze S512x256 squeezes_S1x512x256_S512x256).view.dmaCredit
def NA : ℕ := ((arM.slice ra0 (fun _ => rfl)).squeeze S512x128 squeezes_S1x512x128_S512x128).view.dmaCredit
/-- A transfer of keys or values credits a positive amount. -/
theorem NR_pos : 0 < NR := View.dmaCredit_pos _ (by decide)
/-- A transfer of head outputs credits a positive amount. -/
theorem NA_pos : 0 < NA := View.dmaCredit_pos _ (by decide)
def amt (k : Fin 24) : ℕ := if k.val < 12 then NR else NA
/-- Every transfer credits a positive amount. -/
theorem amt_pos (k : Fin 24) : 0 < amt k := by unfold amt; split; exacts [NR_pos, NA_pos]
/-- A transfer credits its send and receive cells alike. -/
theorem amt_sIx (i : Fin 12) : amt (sIx i) = amt (rIx i) := by
  have h : (sIx i).val < 12 ↔ (rIx i).val < 12 := by revert i; decide
  unfold amt; simp only [h]

/-! ## What the cells hand over -/

/-- The slots a device's left neighbour fills. -/
def handK (c : Dev nD) : sProp 𝕄 :=
  iprop(boxAny c krM rk0 ∗ boxAny c krM rk1 ∗ boxAny c krM rk2 ∗ boxAny c arM ra1 ∗ boxAny c arM ra2 ∗ boxAny c arM ra3)
/-- The slots a device's right neighbour fills. -/
def handV (c : Dev nD) : sProp 𝕄 :=
  iprop(boxAny c vrM rk0 ∗ boxAny c vrM rk1 ∗ boxAny c vrM rk2 ∗ boxAny c alM ra1 ∗ boxAny c alM ra2 ∗ boxAny c alM ra3)
/-- What the barrier hands device `c`: from the right neighbour (`true`) and from the left one. -/
def barPay (c : Dev nD) (d : Bool) : sProp 𝕄 := if d then handK (nxt c) else handV (prv c)

/-- What transfer cell `k` hands device `c`. -/
def dmaPay (c : Dev nD) (k : ℕ) : sProp 𝕄 := match k with
  | 0 => box c ksM rk0 fullShare (KS m 0 c)
  | 1 => box c ksM rk1 fullShare (KS m 1 c)
  | 2 => box c ksM rk2 fullShare (KS m 2 c)
  | 3 => box c krM rk0 fullShare (KS m 0 (prv c))
  | 4 => box c krM rk1 fullShare (KS m 1 (prv c))
  | 5 => box c krM rk2 fullShare (KS m 2 (prv c))
  | 6 => box c vsM rk0 fullShare (VS m 0 c)
  | 7 => box c vsM rk1 fullShare (VS m 1 c)
  | 8 => box c vsM rk2 fullShare (VS m 2 c)
  | 9 => box c vrM rk0 fullShare (VS m 0 (nxt c))
  | 10 => box c vrM rk1 fullShare (VS m 1 (nxt c))
  | 11 => box c vrM rk2 fullShare (VS m 2 (nxt c))
  | 12 => box c arM ra0 hL (agR m 0 c)
  | 13 => box c arM ra1 hL (agR m 1 c)
  | 14 => box c arM ra2 hL (agR m 2 c)
  | 15 => box c arM ra1 fullShare (agR m 1 c)
  | 16 => box c arM ra2 fullShare (agR m 2 c)
  | 17 => box c arM ra3 fullShare (agR m 3 c)
  | 18 => box c alM ra0 hL (agL m 0 c)
  | 19 => box c alM ra1 hL (agL m 1 c)
  | 20 => box c alM ra2 hL (agL m 2 c)
  | 21 => box c alM ra1 fullShare (agL m 1 c)
  | 22 => box c alM ra2 fullShare (agL m 2 c)
  | 23 => box c alM ra3 fullShare (agL m 3 c)
  | _ => iprop(emp)

instance barPay_storable (c : Dev nD) (d : Bool) : BI.Storable (upEmb : UEmb _ 𝕄) (barPay (F := F) c d) := by
  unfold barPay handK handV; split <;> infer_instance
instance dmaPay_storable (c : Dev nD) (k : ℕ) : BI.Storable (upEmb : UEmb _ 𝕄) (dmaPay m c k) := by
  unfold dmaPay; split <;> infer_instance

/-- Every cell has one round: the barrier's two units, one from each neighbour; a transfer cell's one duty. -/
def ringRd : Rounds.Schedule (GSem nD τ sig) Bool 𝕄 where
  duties g r := if r = 0 ∧ g.1.2 = .tc then
      (match g.2 with
        | .reg s => if s = barS then Finset.univ else ∅
        | .dma q => if 9 ≤ q.val then {false} else ∅)
    else ∅
  unitless _ := False
  amount g _ _ := match g.2 with
    | .reg _ => 1
    | .dma q => if q.val - 9 < 12 then NR else NA
  payload g _ d := match g.2 with
    | .reg _ => barPay g.1.1 d
    | .dma q => dmaPay m g.1.1 (q.val - 9)
  amount_pos g _ _ _ := by
    cases h : g.2 with
    | reg _ => exact Nat.one_pos
    | dma q => show 0 < (if q.val - 9 < 12 then NR else NA); split; exacts [NR_pos, NA_pos]

instance ringRd_payload_storable (g : GSem nD τ sig) (r : ℕ) (d : Bool) :
    BI.Storable (upEmb : UEmb _ 𝕄) ((ringRd (F := F) m).payload g r d) := by
  unfold ringRd; cases h : g.2 <;> simp only [h] <;> infer_instance

section Sched
variable (c : Dev nD) (k : Fin 24)

/-- A transfer cell's number is its semaphore's place among the transfer semaphores. -/
theorem xs_val : (xs k).val - 9 = k.val := Nat.add_sub_cancel_left 9 k.val

/-- A barrier has two duties. -/
theorem duties_bar : (ringRd (F := F) m).duties (barCell c) 0 = Finset.univ := by
  dsimp only [ringRd]; rw [if_pos ⟨rfl, rfl⟩]; exact if_pos rfl
/-- A transfer cell has one duty. -/
theorem duties_x : (ringRd (F := F) m).duties (xCell c k) 0 = {false} := by
  dsimp only [ringRd]; rw [if_pos ⟨rfl, rfl⟩]; exact if_pos (Nat.le_add_right 9 k.val)
/-- No cell has a duty after its first round. -/
theorem duties_later (g : GSem nD τ sig) : ∀ r, 1 ≤ r → (ringRd (F := F) m).duties g r = ∅ :=
  fun r hr => by dsimp only [ringRd]; exact if_neg fun h => by omega
/-- Each duty of a barrier is one unit. -/
theorem amount_bar (d : Bool) : (ringRd (F := F) m).amount (barCell c) 0 d = 1 := rfl
/-- A transfer cell's duty is its transfer's amount. -/
theorem amount_x (d : Bool) : (ringRd (F := F) m).amount (xCell c k) 0 d = amt k := by
  dsimp only [ringRd]; rw [xs_val]; rfl
/-- A barrier's round expects two units. -/
theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
/-- A transfer cell's round expects its transfer's amount. -/
theorem expect_x : (ringRd (F := F) m).expect (xCell c k) 0 = amt k := by
  unfold Schedule.expect Schedule.amountOf; rw [duties_x, Finset.sum_singleton, amount_x]
/-- What a barrier's duty hands over. -/
theorem payload_bar (d : Bool) : (ringRd (F := F) m).payload (barCell c) 0 d = barPay c d := rfl
/-- What a transfer cell's duty hands over. -/
theorem payload_x (d : Bool) : (ringRd (F := F) m).payload (xCell c k) 0 d = dmaPay m c k.val := by
  dsimp only [ringRd]; rw [xs_val]
/-- The barrier's round, no duty taken: both neighbours' slots. -/
theorem rest_bar : bigSep ((ringRd (F := F) m).duties (barCell c) 0 \ ∅) (fun d => (ringRd (F := F) m).payload (barCell c) 0 d)
    = iprop(handV (prv c) ∗ handK (nxt c)) := by
  rw [Finset.sdiff_empty, duties_bar, bigSep_univ_eq_bigSepL [false, true] (by decide) (by decide), bigSepL_cons_cons, bigSepL_singleton,
    payload_bar, payload_bar]
  rfl
/-- A transfer cell's round, no duty taken: what the cell hands over. -/
theorem rest_x : bigSep ((ringRd (F := F) m).duties (xCell c k) 0 \ ∅) (fun d => (ringRd (F := F) m).payload (xCell c k) 0 d)
    = dmaPay m c k.val := by
  rw [Finset.sdiff_empty, duties_x, bigSep_singleton, payload_x]

end Sched

/-! ## What a device owes, and the levels -/

/-- The transfer `n` places from the end. -/
def ixOf (n : ℕ) : Fin 12 := ⟨11 - n, by omega⟩
/-- The receive cells a device's last `n` transfers credit. -/
def owed (c : Dev nD) : ℕ → CellTallies nD τ sig Unit
  | 0 => 0
  | n + 1 => owed c n + tallyAt (xCell (tgt (ixOf n) c) (rIx (ixOf n))) () (amt (rIx (ixOf n)))
/-- At launch: all twelve transfers, and a unit to each neighbour's barrier. -/
def O₁ (c : Dev nD) : CellTallies nD τ sig Unit := owed c 12 + tallyAt (barCell (nxt c)) () 1
def O₀ (c : Dev nD) : CellTallies nD τ sig Unit := O₁ c + tallyAt (barCell (prv c)) () 1

def L (g : GSem nD τ sig) : Finset Unit := if g.1.2 = .tc then {()} else ∅
/-- The level of a transfer cell: a receive cell's is two more than its transfer's place, a send cell's is zero. -/
def lvX (k : ℕ) : ℕ := if (k / 3) % 2 = 1 then 2 + 2 * (k % 3) + (k / 6) % 2 + 6 * (k / 12) else 0
/-- The level of a cell: the barrier's is one, a staging cell's zero. -/
def lvS : SemLoc sig → ℕ
  | .reg _ => 1
  | .dma q => if 9 ≤ q.val then lvX (q.val - 9) else 0
def lv (g : GSem nD τ sig) (_ : Unit) : ℕ := lvS g.2

/-- Cells off the tensor core have no level. -/
theorem L_of_ne (g : GSem nD τ sig) (h : g.1.2 ≠ .tc) : L g = ∅ := if_neg h
/-- Cells on the tensor core have one. -/
theorem L_tc (c : Dev nD) (sm : SemLoc sig) : L ((c : Thread nD τ), sm) = {()} := if_pos rfl

/-- The level of a transfer cell, by its number. -/
theorem lvS_x (k : Fin 24) : lvS (.dma (xs k)) = lvX k.val := by
  show (if 9 ≤ (xs k).val then lvX ((xs k).val - 9) else 0) = _
  rw [xs_val]; exact if_pos (Nat.le_add_right 9 k.val)
/-- A receive cell's level is two more than its transfer's place. -/
theorem lvX_r (i : Fin 12) : lvX (rIx i).val = 2 + i.val := by revert i; decide

/-- A cell still owed one of the last `n` transfers has level at least `14 - n`. -/
theorem owed_pos {c : Dev nD} {g : GSem nD τ sig} {u : Unit} {n : ℕ} (hn : n ≤ 12) (h : 0 < owed c n g u) :
    g.1.2 = .tc ∧ 14 - n ≤ lvS g.2 := by
  induction n with
  | zero => exact absurd h (Nat.lt_irrefl 0)
  | succ n ih =>
    unfold owed at h
    rw [Pi.add_apply, Finsupp.add_apply, tallyAt_apply] at h
    by_cases hg : g = xCell (tgt (ixOf n) c) (rIx (ixOf n)) ∧ u = ()
    · rw [hg.1]; refine ⟨rfl, ?_⟩
      show 14 - (n + 1) ≤ lvS (.dma (xs (rIx (ixOf n))))
      rw [lvS_x, lvX_r]; simp only [ixOf]; omega
    · rw [if_neg hg] at h
      obtain ⟨h1, h2⟩ := ih (by omega) (by omega)
      exact ⟨h1, by omega⟩

/-- A cell owed anything at launch has level at least one. -/
theorem O₀_pos {c : Dev nD} {g : GSem nD τ sig} {u : Unit} (h : 0 < O₀ c g u) : g.1.2 = .tc ∧ 1 ≤ lvS g.2 := by
  unfold O₀ O₁ at h
  rw [Pi.add_apply, Finsupp.add_apply, Pi.add_apply, Finsupp.add_apply, tallyAt_apply, tallyAt_apply] at h
  by_cases h1 : g = barCell (nxt c) ∧ u = ()
  · rw [h1.1]; exact ⟨rfl, Nat.le_refl 1⟩
  by_cases h2 : g = barCell (prv c) ∧ u = ()
  · rw [h2.1]; exact ⟨rfl, Nat.le_refl 1⟩
  rw [if_neg h1, if_neg h2] at h
  obtain ⟨h3, h4⟩ := owed_pos (n := 12) (Nat.le_refl 12) (by omega : 0 < owed c 12 g u)
  exact ⟨h3, by omega⟩

/-- A device may wait on a cell whose level is below every transfer it still owes. -/
theorem mayWait_owed (c : Dev nD) (s : SemLoc sig) (n : ℕ) (hn : n ≤ 12) (hl : lvS s < 14 - n) :
    (levAts L lv : sProp 𝕄) ⊢ MayWait (c : Thread nD τ) s () (owed c n) :=
  MayOwe.of_cut (L := L) (lev := lv) (lvS s) (fun p hp => by rw [Finset.mem_singleton.mp hp, L_tc]; exact Finset.mem_singleton_self _)
    (fun g u hg => by unfold L; rw [if_pos (owed_pos hn hg).1]; exact Finset.mem_singleton_self _)
    (fun p hp => by rw [Finset.mem_singleton.mp hp]; exact Nat.le_refl _)
    (fun g u hg => by have := (owed_pos hn hg).2; show lvS s < lvS g.2; omega)

/-- A device may wait on a cell of level zero at launch, and on any cell once it owes nothing. -/
theorem mayWait_stage (c : Dev nD) (s : SemLoc sig) (hs : lvS s = 0) (O : CellTallies nD τ sig Unit) (hO : O = O₀ c ∨ O = 0) :
    (levAts L lv : sProp 𝕄) ⊢ MayWait (c : Thread nD τ) s () O := by
  rcases hO with rfl | rfl
  · exact MayOwe.of_cut (L := L) (lev := lv) 0 (fun p hp => by rw [Finset.mem_singleton.mp hp, L_tc]; exact Finset.mem_singleton_self _)
      (fun g u hg => by unfold L; rw [if_pos (O₀_pos hg).1]; exact Finset.mem_singleton_self _)
      (fun p hp => by rw [Finset.mem_singleton.mp hp]; exact Nat.le_of_eq hs)
      (fun g u hg => (O₀_pos hg).2)
  · rw [MayWait_zero]; iintro -; iempintro

/-! ## What every device's steps share -/

/-- The semaphore of cell `k` of a device: the transfer cells, then the barrier. -/
def csem (k : Fin 25) : SemLoc sig := if h : k.val < 24 then .dma (xs ⟨k.val, h⟩) else .reg barS
abbrev kcell (p : Dev nD × Fin 25) : GSem nD τ sig := ((p.1 : Thread nD τ), csem p.2)

/-- The semaphore of a transfer cell. -/
theorem csem_x (k : Fin 24) : csem k.castSucc = .dma (xs k) := dif_pos k.isLt
/-- The semaphore of the barrier. -/
theorem csem_bar : csem (Fin.last 24) = .reg barS := dif_neg (by decide)

/-- The levels, the invariants of all cells under the names they were allocated at, and that all are at round 0. -/
def records (K : Dev nD × Fin 25 → ℕ) : sProp 𝕄 :=
  iprop(levAts L lv
    ∗ bigSep Finset.univ (fun p : Dev nD × Fin 25 => cellInv ER (ringRd m) (K p) (kcell p))
    ∗ bigSep Finset.univ (fun p : Dev nD × Fin 25 => reached ER (kcell p) 0))

instance records_persistent (K : Dev nD × Fin 25 → ℕ) : BI.Persistent (records m K) := by unfold records; infer_instance

variable (K : Dev nD × Fin 25 → ℕ)

/-- The records contain the levels, -/
theorem records_lev : records m K ⊢ (levAts L lv : sProp 𝕄) := by unfold records; iintro ⟨H, -, -⟩; iexact H
/-- every cell's invariant, -/
theorem records_inv (p : Dev nD × Fin 25) : records m K ⊢ cellInv ER (ringRd m) (K p) (kcell p) := by

  unfold records; iintro ⟨-, H, -⟩
  iapply (show (bigSep Finset.univ (fun p : Dev nD × Fin 25 => cellInv ER (ringRd m) (K p) (kcell p)) : sProp 𝕄) ⊢ cellInv ER (ringRd m) (K p) (kcell p)
    from bigSep_elim (Finset.mem_univ p)); iexact H
/-- and that every cell is at round 0. -/
theorem records_reached (p : Dev nD × Fin 25) : records m K ⊢ (reached ER (kcell p) 0 : sProp 𝕄) := by

  unfold records; iintro ⟨-, -, H⟩
  iapply (show (bigSep Finset.univ (fun p : Dev nD × Fin 25 => reached ER (kcell p) 0) : sProp 𝕄) ⊢ reached ER (kcell p) 0
    from bigSep_elim (Finset.mem_univ p)); iexact H

/-- The records contain a transfer cell's invariant, -/
theorem inv_x (c : Dev nD) (k : Fin 24) : records m K ⊢ cellInv ER (ringRd m) (K (c, k.castSucc)) (xCell c k) := by
  have h := records_inv m K (c, k.castSucc); unfold kcell at h; rwa [csem_x] at h
/-- and a barrier's; -/
theorem inv_bar (c : Dev nD) : records m K ⊢ cellInv ER (ringRd m) (K (c, Fin.last 24)) (barCell c) := by
  have h := records_inv m K (c, Fin.last 24); unfold kcell at h; rwa [csem_bar] at h
/-- that a transfer cell is at round 0, -/
theorem reached_x (c : Dev nD) (k : Fin 24) : records m K ⊢ (reached ER (xCell c k) 0 : sProp 𝕄) := by
  have h := records_reached m K (c, k.castSucc); unfold kcell at h; rwa [csem_x] at h
/-- and that a barrier is. -/
theorem reached_bar (c : Dev nD) : records m K ⊢ (reached ER (barCell c) 0 : sProp 𝕄) := by
  have h := records_reached m K (c, Fin.last 24); unfold kcell at h; rwa [csem_bar] at h

end Cert.KernelIdeal.Ring
-- ==== Proof.RingI.Steps.lean ====
/-
One rule per kind of step of the body: a transfer, a wait, a load from a box, a store to a box.
-/
module

public import proofs.«01_k».proof.Proof.RingI.Setup
public import Idealize.ShloMosaic.Lib.Pipeline.Value

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A box read, written, sent, split -/

/-- A shape cast to a squeezed shape forgets nothing. -/
theorem shapeCast_cancel {s s' : Shape} {α : Type} {v w : s.Idx → α} (h : s.ShapeCasts s') (hvw : shapeCast s' v h = shapeCast s' w h) :
    v = w := by
  have h' : s'.ShapeCasts s := h.symm
  rw [← shapeCast_shapeCast v h h', hvw, shapeCast_shapeCast]

section Boxes
variable {sB s2 : Shape} {e : EltTy}

/-- A slot's elements are those of the box loaded through it. -/
theorem slot_set (M : Memref sig .tc .vmem sB e) (r : Rect sB) (hr : ∀ a, r.stride a = 1) (hq : r.shape.Squeezes s2) :
    ((M.slice r hr).squeeze s2 hq).view.set = (M.access r).set := Memref.set_view_squeeze _ hq

/-- A box sent to another box of the same extents reads the same there. -/
theorem read_landed (M M' : Memref sig .tc .vmem sB e) {size off off' : Fin sB.rank → ℕ} {inb : ∀ a, off a + size a ≤ sB.size a}
    {inb' : ∀ a, off' a + size a ≤ sB.size a} (hq : (Rect.unit off size inb).shape.Squeezes s2) (hq' : (Rect.unit off' size inb').shape.Squeezes s2)
    (fd : M'.view.ty.Contents (Elt F)) (fs : M.view.ty.Contents (Elt F)) :
    M'.view.readAt (Elt F) (Rect.unit off' size inb').toLoadRect
        (((M'.slice (Rect.unit off' size inb') (fun _ => rfl)).squeeze s2 hq').view.write (Elt F) fd
          (((M.slice (Rect.unit off size inb) (fun _ => rfl)).squeeze s2 hq).view.read (Elt F) fs) Finset.univ)
      = M.view.readAt (Elt F) (Rect.unit off size inb).toLoadRect fs := by
  have h1 := View.read_write_univ (Val := Elt F) (v := ((M'.slice (Rect.unit off' size inb') (fun _ => rfl)).squeeze s2 hq').view) fd
    (((M.slice (Rect.unit off size inb) (fun _ => rfl)).squeeze s2 hq).view.read (Elt F) fs)
  exact shapeCast_cancel (show Shape.ShapeCasts _ _ from hq'.numel_eq) h1

/-- A slot's elements, read as a box. -/
theorem box_of_slot (c : Dev nD) (M : Memref sig .tc .vmem sB e) (r : Rect sB) (hr : ∀ a, r.stride a = 1) (hq : r.shape.Squeezes s2)
    (q : PosShare TreeShare) (Y : r.shape.Idx → Elt F e) (f : Buf (Elt F) (M.view.loc (c : Thread nD τ)))
    (hf : M.view.readAt (Elt F) r.toLoadRect f = Y) :
    (((M.slice r hr).squeeze s2 hq).view.loc (c : Thread nD τ) ↦[((M.slice r hr).squeeze s2 hq).view.set]{q} f) ⊢ (box c M r q Y : sProp 𝕄) := by
  unfold box; rw [slot_set]
  iintro H; iexists f; isplitr; · ipureintro; exact hf
  iexact H

/-- A box split into its two halves, and made whole again. -/
theorem box_halves (c : Dev nD) (M : Memref sig .tc .vmem sB e) (r : Rect sB) (Y : r.shape.Idx → Elt F e) :
    box c M r fullShare Y ⊢ (iprop(box c M r hL Y ∗ box c M r hR Y) : sProp 𝕄) := by
  unfold box
  iintro ⟨%f, %hf, H⟩
  ihave H := (pointsTo_share (PosShare.mem_left_op_right fullShare)).1 $$ H
  icases H with ⟨H1, H2⟩
  isplitl [H1]
  · iexists f; isplitr; · ipureintro; exact hf
    iexact H1
  · iexists f; isplitr; · ipureintro; exact hf
    iexact H2

/-- A box at named contents is a box at some contents. -/
theorem box_any (c : Dev nD) (M : Memref sig .tc .vmem sB e) (r : Rect sB) (Y : r.shape.Idx → Elt F e) :
    box c M r fullShare Y ⊢ (boxAny c M r : sProp 𝕄) := by
  unfold box boxAny
  iintro ⟨%f, %hf, H⟩
  iexists f; iexact H

/-- Two halves of one region are the region, at either's contents. -/
theorem pts_join (t : Thread nD τ) (v : View sig t.2.kind .vmem sB e) {I : Finset (Idx (v.loc t))} (f g : Buf (Elt F) (v.loc t)) :
    iprop((v.loc t ↦[I]{hL} f) ∗ (v.loc t ↦[I]{hR} g)) ⊢ (v.loc t ↦[I]{fullShare} f : sProp 𝕄) := by
  refine pure_elim _ pointsTo_agree fun h => ?_
  rw [← pointsTo_congr (f := f) (g := g) (fun i hi => (h i (Finset.mem_inter.mpr ⟨hi, hi⟩)).1)]
  exact (pointsTo_share (PosShare.mem_left_op_right fullShare)).2

/-- The two halves of a box make up the box at some contents. -/
theorem box_join (c : Dev nD) (M : Memref sig .tc .vmem sB e) (r : Rect sB) (Y Y' : r.shape.Idx → Elt F e) :
    iprop(box c M r hL Y ∗ box c M r hR Y') ⊢ (boxAny c M r : sProp 𝕄) := by
  unfold box boxAny
  iintro ⟨⟨%f, %hf, H1⟩, ⟨%g, %hg, H2⟩⟩
  iexists f
  iapply (pts_join (c : Thread nD τ) M.view f g)
  isplitl [H1] <;> iassumption

end Boxes

/-! ## The steps -/

/-- What a device owes, whatever it has waited on. -/
def ow (c : Dev nD) (O : CellTallies nD τ sig Unit) : sProp 𝕄 := iprop(∃ W, owes (c : Thread nD τ) O W)

/-- The weakest precondition of a program on a device's core. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What a device pays transfer `i` with. -/
def xtok (c : Dev nD) (i : Fin 12) : sProp 𝕄 :=
  iprop(dutyTok ER (xCell c (sIx i)) 0 false ∗ dutyTok ER (xCell (tgt i c) (rIx i)) 0 false)

variable (K : Dev nD × Fin 25 → ℕ)

section Steps

set_option maxHeartbeats 800000 in
/-- A transfer: the source box goes at share `q`, the destination box comes back filled through its receive cell. -/
theorem step_send {α : Type} {Q : α → sProp 𝕄} {k : PUnit → Prog (TpuEff nD τ sig (Elt F) Λ₀ .tc) α} (c n : Dev nD) (i : Fin 12) (hn : n = tgt i c) {sS sR : DmaSem sig} (hS : sS = xs (sIx i)) (hR : sR = xs (rIx i))
    {sB s2 : Shape} {e : EltTy} {M M' : Memref sig .tc .vmem sB e} {size off off' : Fin sB.rank → ℕ} {inb : ∀ a, off a + size a ≤ sB.size a}
    {inb' : ∀ a, off' a + size a ≤ sB.size a} {hq : (Rect.unit off size inb).shape.Squeezes s2} {hq' : (Rect.unit off' size inb').shape.Squeezes s2}
    {hsc : ((M'.slice (Rect.unit off' size inb') (fun _ => rfl)).squeeze s2 hq').view.ref.isScScratch = false}
    {hsrc : ((M.slice (Rect.unit off size inb) (fun _ => rfl)).squeeze s2 hq).view.WordExact}
    {hdst : ((M'.slice (Rect.unit off' size inb') (fun _ => rfl)).squeeze s2 hq').view.WordExact}
    {hsem : DmaTarget.Typed .vmem (.dma sR) (.remote (Dev.tc n : Thread nD τ) ((M'.slice (Rect.unit off' size inb') (fun _ => rfl)).squeeze s2 hq') (.dma sS) hsc)}
    (q : PosShare TreeShare) (Y : (Rect.unit off size inb).shape.Idx → Elt F e)
    (hN : ((M'.slice (Rect.unit off' size inb') (fun _ => rfl)).squeeze s2 hq').view.dmaCredit = amt (rIx i))
    (hp1 : box c M (Rect.unit off size inb) q Y ⊢ dmaPay m c (sIx i).val)
    (hp2 : box (tgt i c) M' (Rect.unit off' size inb') fullShare Y ⊢ dmaPay m (tgt i c) (rIx i).val)
    (j : ℕ) (hj : i = ixOf j) :
    iprop(records m K ∗ xtok c i ∗ box c M (Rect.unit off size inb) q Y ∗ boxAny (tgt i c) M' (Rect.unit off' size inb') ∗ ow c (owed c (j + 1)))
      ⊢ iprop(((cred (tallyAt (xCell c (sIx i)) () (amt (sIx i))) ∗ ow c (owed c j)) -∗ WP c (k ⟨⟩) Q)
          -∗ WP c
              (.op (.enqueueDma ((M.slice (Rect.unit off size inb) (fun _ => rfl)).squeeze s2 hq)
                (.remote (Dev.tc n : Thread nD τ) ((M'.slice (Rect.unit off' size inb') (fun _ => rfl)).squeeze s2 hq') (.dma sS) hsc) (.dma sR) hsrc hdst hsem) k) Q) := by
  subst hn hS hR
  unfold xtok box boxAny ow
  iintro ⟨#HR, ⟨Ht1, Ht2⟩, ⟨%fs, %hfs, Hs⟩, ⟨%fd, Hd⟩, ⟨%W, HO⟩⟩ Hk
  iapply (Rounds.wp_send_pointsTo 𝒱₀ ER (ringRd m) (c : Thread nD τ) none (κ₁ := K (c, (sIx i).castSucc)) (κ₂ := K (tgt i c, (rIx i).castSucc))
    (src := (M.slice (Rect.unit off size inb) (fun _ => rfl)).squeeze s2 hq)
    (c' := (Dev.tc (tgt i c) : Thread nD τ)) (dst := (M'.slice (Rect.unit off' size inb') (fun _ => rfl)).squeeze s2 hq') (sem := .dma (xs (rIx i)))
    (r₁ := 0) (r₂ := 0) (d₁ := false) (d₂ := false) (q := q) (fs := fs) (fd := fd)
    (by rw [duties_x]; exact Finset.mem_singleton_self _) (by rw [duties_x]; exact Finset.mem_singleton_self _)
    () () (amt (rIx i)) hN ((amount_x m c (sIx i) false).trans (amt_sIx i)) (amount_x m (tgt i c) (rIx i) false) (owed c j)
    (by subst hj; rfl) (W := W)
    (by rw [payload_x]; exact (box_of_slot c M _ (fun _ => rfl) hq q Y fs hfs).trans hp1)
    (by rw [payload_x]; exact (box_of_slot (tgt i c) M' _ (fun _ => rfl) hq' fullShare Y _ ((read_landed M M' hq hq' fd fs).trans hfs)).trans hp2)) $$ [Hs Hd HO Ht1 Ht2]
  · isplitr; · iapply (inv_x m K c (sIx i)); iexact HR
    isplitr; · iapply (inv_x m K (tgt i c) (rIx i)); iexact HR
    isplitl [Hs]; · rw [slot_set]; iexact Hs
    isplitl [Hd]; · rw [slot_set]; iexact Hd
    isplitl [HO]; · iexact HO
    isplitl [Ht1]; · iexact Ht1
    isplitr; · iapply (reached_x m K c (sIx i)); iexact HR
    isplitl [Ht2]; · iexact Ht2
    iapply (reached_x m K (tgt i c) (rIx i)); iexact HR
  iintro ⟨Hc, HO⟩
  iapply Hk
  rw [amt_sIx]
  isplitl [Hc]; · iexact Hc
  iexists W; iexact HO

/-- A wait on transfer cell `kk` for its whole round: what the cell hands over. -/
theorem step_wait {α : Type} {Q : α → sProp 𝕄} {k : PUnit → Prog (TpuEff nD τ sig (Elt F) Λ₀ .tc) α} (c : Dev nD) (kk : Fin 24) (n : ℕ) (hn : n ≤ 12) (hl : lvX kk.val < 14 - n) {sm : DmaSem sig} {N : ℕ}
    {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (.dma sm) N P)
    (hs : sm = xs kk) (hN : N = amt kk) {P : sProp 𝕄} (hP : dmaPay m c kk.val ⊢ P) :
    iprop(records m K ∗ cred (tallyAt (xCell c kk) () (amt kk)) ∗ atPos ER (xCell c kk) 0 ∅ 0 ∗ ow c (owed c n))
      ⊢ iprop(((P ∗ atPos ER (xCell c kk) 1 ∅ 0 ∗ ow c (owed c n)) -∗ WP c (k ⟨⟩) Q)
          -∗ WP c (.op w k) Q) := by
  subst hs hN
  unfold ow
  iintro ⟨#HR, Hc, Hat, ⟨%W, HO⟩⟩ Hk
  iapply (Rounds.wp_wait_rest_token 𝒱₀ ER (ringRd m) (c : Thread nD τ) none (κ := K (c, kk.castSucc))
      hw (Set.mem_univ _) () (O := owed c n) (W := W) (R := 0) (m := 0) (T := ∅)
      (by rw [Nat.zero_add, expect_x])) $$ [Hc HO Hat]
  · isplitr; · iapply (inv_x m K c kk); iexact HR
    isplitl [Hc]; · iexact Hc
    isplitl [HO]; · iexact HO
    isplitr
    · iapply (mayWait_owed c (.dma (xs kk)) n hn (by rw [lvS_x]; exact hl)); iapply (records_lev m K); iexact HR
    iexact Hat
  iintro ⟨HO, Hat, -, Hpay⟩
  ihave Hpay := (Entails.of_eq (rest_x m c kk)) $$ Hpay
  iapply Hk
  isplitl [Hpay]; · iapply hP; iexact Hpay
  isplitl [Hat]; · iexact Hat
  iexists _; iexact HO

/-- A load of a box reads what it holds. -/
theorem step_load {α : Type} {Q : α → sProp 𝕄} (c : Dev nD) {sB : Shape} {e : EltTy} {M : Memref sig .tc .vmem sB e} {r : Rect sB} {hl : M.view.LoadsAt r.toLoadRect}
    {q : PosShare TreeShare} {Y : r.shape.Idx → Elt F e} {k : (r.shape.Idx → Elt F e) → Prog (TpuEff nD τ sig (Elt F) Λ₀ .tc) α} :
    box c M r q Y ⊢ iprop((box c M r q Y -∗ WP c (k Y) Q)
      -∗ WP c (.op (.load M r.toLoadRect hl) k) Q) := by
  unfold box
  iintro ⟨%f, %hf, H⟩ Hk
  iapply (wp_load_rect 𝒱₀ (c : Thread nD τ) none Set.univ (m := M) (r := r) (Finset.Subset.refl _)) $$ H
  iintro H
  have hf' : (M.access r).read (Elt F) f = Y := hf
  rw [hf']
  iapply Hk; iexists f; isplitr; · ipureintro; exact hf
  iexact H

/-- A load of a box of unknown contents. -/
theorem step_load_any {α : Type} {Q : α → sProp 𝕄} (c : Dev nD) {sB : Shape} {e : EltTy} {M : Memref sig .tc .vmem sB e} {r : Rect sB} {hl : M.view.LoadsAt r.toLoadRect}
    {k : (r.shape.Idx → Elt F e) → Prog (TpuEff nD τ sig (Elt F) Λ₀ .tc) α} :
    boxAny c M r ⊢ iprop((∀ Y, boxAny c M r -∗ WP c (k Y) Q)
      -∗ WP c (.op (.load M r.toLoadRect hl) k) Q) := by
  unfold boxAny
  iintro ⟨%f, H⟩ Hk
  iapply (wp_load_rect 𝒱₀ (c : Thread nD τ) none Set.univ (m := M) (r := r) (Finset.Subset.refl _)) $$ H
  iintro H
  iapply Hk; iexists f; iexact H

/-- A store to a box: it holds what was stored. -/
theorem step_store {α : Type} {Q : α → sProp 𝕄} {k : PUnit → Prog (TpuEff nD τ sig (Elt F) Λ₀ .tc) α} (c : Dev nD) {sB : Shape} {e : EltTy} {M : Memref sig .tc .vmem sB e} {r : Rect sB} {w : r.shape.Idx → Elt F e}
    {hx : (M.access r).Stores Finset.univ} {hm : (Finset.univ : Finset r.shape.Idx) = Finset.univ ∨ ∀ a, r.stride a = 1} :
    boxAny c M r ⊢ iprop((box c M r fullShare w -∗ WP c (k ⟨⟩) Q)
      -∗ WP c (.op (.store M r w Finset.univ hx hm) k) Q) := by
  unfold box boxAny
  iintro ⟨%f, H⟩ Hk
  iapply (wp_store 𝒱₀ (c : Thread nD τ) none Set.univ (m := M) (r := r) (Mk := Finset.univ)
    (by rw [View.setOn_univ])) $$ H
  iintro H
  iapply Hk; iexists _; isplitr
  rotate_left
  · iexact H
  · ipureintro; exact View.read_write_univ (v := M.access r) f w

/-- A box held outright, with contents of which `P` is known. -/
def boxSat {sB : Shape} {e : EltTy} (c : Dev nD) (M : Memref sig .tc .vmem sB e) (r : Rect sB)
    (P : Buf (Elt F) (M.view.loc (c : Thread nD τ)) → Prop) : sProp 𝕄 :=
  iprop(∃ f : Buf (Elt F) (M.view.loc (c : Thread nD τ)), ⌜P f⌝ ∗ (M.view.loc (c : Thread nD τ) ↦[(M.access r).set]{fullShare} f))

/-- A box at some contents satisfies the trivial condition. -/
theorem boxSat_of_any (c : Dev nD) {sB : Shape} {e : EltTy} (M : Memref sig .tc .vmem sB e) (r : Rect sB) :
    boxAny c M r ⊢ (boxSat (F := F) c M r (fun _ => True) : sProp 𝕄) := by
  unfold boxAny boxSat; iintro ⟨%f, H⟩; iexists f; isplitr; · ipureintro; trivial
  iexact H

/-- A box whose contents are determined by what they satisfy is a box at those contents. -/
theorem box_of_sat (c : Dev nD) {sB : Shape} {e : EltTy} (M : Memref sig .tc .vmem sB e) (r : Rect sB)
    (P : Buf (Elt F) (M.view.loc (c : Thread nD τ)) → Prop) (Y : r.shape.Idx → Elt F e)
    (h : ∀ f, P f → M.view.readAt (Elt F) r.toLoadRect f = Y) :
    boxSat c M r P ⊢ (box c M r fullShare Y : sProp 𝕄) := by
  unfold box boxSat; iintro ⟨%f, %hf, H⟩; iexists f; isplitr; · ipureintro; exact h f hf
  iexact H

/-- A load of a part of a box. -/
theorem step_load_sat {α : Type} {Q : α → sProp 𝕄} (c : Dev nD) {sB : Shape} {e : EltTy} {M : Memref sig .tc .vmem sB e} {r r' : Rect sB}
    {hl : M.view.LoadsAt r'.toLoadRect} {P : Buf (Elt F) (M.view.loc (c : Thread nD τ)) → Prop} (hsub : (M.access r').set ⊆ (M.access r).set)
    {k : (r'.shape.Idx → Elt F e) → Prog (TpuEff nD τ sig (Elt F) Λ₀ .tc) α} :
    boxSat c M r P ⊢ iprop((∀ Y, boxSat c M r P -∗ WP c (k Y) Q) -∗ WP c (.op (.load M r'.toLoadRect hl) k) Q) := by
  unfold boxSat
  iintro ⟨%f, %hf, H⟩ Hk
  iapply (wp_load_rect 𝒱₀ (c : Thread nD τ) none Set.univ (m := M) (r := r') hsub) $$ H
  iintro H
  iapply Hk; iexists f; isplitr; · ipureintro; exact hf
  iexact H

/-- A store to a part of a box. -/
theorem step_store_sat {α : Type} {Q : α → sProp 𝕄} {k : PUnit → Prog (TpuEff nD τ sig (Elt F) Λ₀ .tc) α} (c : Dev nD) {sB : Shape} {e : EltTy}
    {M : Memref sig .tc .vmem sB e} {r r' : Rect sB} {w : r'.shape.Idx → Elt F e}
    {hx : (M.access r').Stores Finset.univ} {hm : (Finset.univ : Finset r'.shape.Idx) = Finset.univ ∨ ∀ a, r'.stride a = 1}
    {P : Buf (Elt F) (M.view.loc (c : Thread nD τ)) → Prop} (P' : Buf (Elt F) (M.view.loc (c : Thread nD τ)) → Prop)
    (hsub : (M.access r').set ⊆ (M.access r).set) (hP : ∀ f, P f → P' ((M.access r').write (Elt F) f w Finset.univ)) :
    boxSat c M r P ⊢ iprop((boxSat c M r P' -∗ WP c (k ⟨⟩) Q) -∗ WP c (.op (.store M r' w Finset.univ hx hm) k) Q) := by
  unfold boxSat
  iintro ⟨%f, %hf, H⟩ Hk
  iapply (wp_store 𝒱₀ (c : Thread nD τ) none Set.univ (m := M) (r := r') (Mk := Finset.univ)
    (by rw [View.setOn_univ]; exact hsub)) $$ H
  iintro H
  iapply Hk; iexists _; isplitr
  rotate_left
  · iexact H
  · ipureintro; exact hP f hf

end Steps

end Cert.KernelIdeal.Ring
-- ==== Proof.RingI.BodyA.lean ====
/-
The body up to the summed keys and values: the entry handshake, the device's own partial sums, the two
reduce-scatter rings.
-/
module

public import proofs.«01_k».proof.Proof.RingI.Steps

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 25 → ℕ)

/-! ## What a device holds -/

/-- A staging buffer with its contents. -/
abbrev stgAt (c : Dev nD) (b : Ref sig .tc) (X : b.ty.Contents (Elt F)) : sProp 𝕄 := ((c : Thread nD τ).loc b) ↦{fullShare} X
/-- Send and receive cells of transfer `i`: the position at round `r`, the credit to wait with. -/
abbrev pS (c : Dev nD) (i : Fin 12) (r : ℕ) : sProp 𝕄 := atPos ER (xCell c (sIx i)) r ∅ 0
abbrev pR (c : Dev nD) (i : Fin 12) (r : ℕ) : sProp 𝕄 := atPos ER (xCell c (rIx i)) r ∅ 0
abbrev cS (c : Dev nD) (i : Fin 12) : sProp 𝕄 := cred (tallyAt (xCell c (sIx i)) () (amt (sIx i)))
abbrev cR (c : Dev nD) (i : Fin 12) : sProp 𝕄 := cred (tallyAt (xCell c (rIx i)) () (amt (rIx i)))

/-- The device's partial sums, side by side. -/
def kvOK (c : Dev nD) (f : (cc0_scratch0 : Ref sig .tc).ty.Contents (Elt F)) : Prop :=
  (∀ y : S512x1024.Idx, f ((Rect.unit (s := S512x2048) ![0, 0] S512x1024.size inb_S512x2048_S512x1024_0_0).emb y) = pK m c y)
    ∧ (∀ y : S512x1024.Idx, f ((Rect.unit (s := S512x2048) ![0, 1024] S512x1024.size inb_S512x2048_S512x1024_0_1024).emb y) = pV m c y)
def kvHeld (c : Dev nD) : sProp 𝕄 := iprop(∃ f, ⌜kvOK m c f⌝ ∗ stgAt c cc0_scratch0 f)
def kvAny (c : Dev nD) : sProp 𝕄 := iprop(∃ f : (cc0_scratch0 : Ref sig .tc).ty.Contents (Elt F), stgAt c cc0_scratch0 f)

/-- A part of the kernel at the launch's own buffers. -/
abbrev atBufs {β : Type 1} (p : (a0 : Memref sig .tc .vmem S2x256x1024 .bf16) → a0.IsWhole → (a1 : Memref sig .tc .vmem S1024x64 .bf16) → a1.IsWhole
    → (a2 : Memref sig .tc .vmem S64x1024 .bf16) → a2.IsWhole → (a3 : Memref sig .tc .vmem S64x1024 .bf16) → a3.IsWhole
    → (a4 : Memref sig .tc .vmem S1024x1024 .bf16) → a4.IsWhole → (a5 : Memref sig .tc .vmem S1024x512 .bf16) → a5.IsWhole
    → (a6 : Memref sig .tc .vmem S1024x32 .bf16) → a6.IsWhole → (a7 : Memref sig .tc .vmem S1024x1024 .bf16) → a7.IsWhole
    → (a8 : Memref sig .tc .vmem S2x256x1024 .f32) → a8.IsWhole → (a9 : Memref sig .tc .vmem S512x2048 .bf16) → a9.IsWhole
    → (a10 : Memref sig .tc .vmem S3x512x256 .bf16) → a10.IsWhole → (a11 : Memref sig .tc .vmem S3x512x256 .bf16) → a11.IsWhole
    → (a12 : Memref sig .tc .vmem S3x512x256 .bf16) → a12.IsWhole → (a13 : Memref sig .tc .vmem S3x512x256 .bf16) → a13.IsWhole
    → (a14 : Memref sig .tc .vmem S4x512x128 .bf16) → a14.IsWhole → (a15 : Memref sig .tc .vmem S4x512x128 .bf16) → a15.IsWhole
    → DmaSems sig S8x3 → β) : β :=
  p (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_stg8_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) (Memref.whole cc0_scratch6) (Memref.isWhole_whole _) cc0_scratch7

/-- A program that returns satisfies what holds of its value. -/
theorem step_ret {α : Type} {Q : α → sProp 𝕄} (c : Dev nD) (a : α) : Q a ⊢ WP (F := F) c (.ret a) Q := by
  iintro H
  unfold WP; rw [wp_ret]; imodintro
  iexact H

/-! ## The entry handshake -/

/-- The first barrier signal goes to the left neighbour, -/
theorem dev1_eq (c : Dev nD) : (⟨k0_dev1 c, k0_dev1_lt c⟩ : Dev nD) = prv c := by revert c; decide
/-- the second to the right one. -/
theorem dev2_eq (c : Dev nD) : (⟨k0_dev2 c, k0_dev2_lt c⟩ : Dev nD) = nxt c := by revert c; decide

set_option maxHeartbeats 800000 in
/-- Both neighbours are signalled, each handed the slots it fills; theirs come back. -/
theorem part1 (c : Dev nD) (Kt : (Σ' (d0 : Dev nD) (v2 : BitVec 32) (v14 : BitVec 32), BitVec 32) → sProp 𝕄) :
    iprop(records m K ∗ dutyTok ER (barCell (prv c)) 0 true ∗ dutyTok ER (barCell (nxt c)) 0 false ∗ handK c ∗ handV c
        ∗ cred (tallyAt (barCell c) () 2) ∗ atPos ER (barCell c) 0 ∅ 0 ∗ ow c (O₀ c)
        ∗ (∀ v2, ∀ v14, ∀ v25, handV (prv c) ∗ handK (nxt c) ∗ atPos ER (barCell c) 1 ∅ 0 ∗ ow c (owed c 12) -∗ Kt ⟨c, v2, v14, v25⟩))
      ⊢ WP c (atBufs (k0_part1 (F := F))) Kt := by
  rw [k0_part1_eq_skeleton]; unfold k0_part1_skel
  simp only [semSignalWord, semWaitWord, Prog.lift, Prog.bind_op, Prog.bind_ret, Prog.pure_eq_ret, wp_deviceId]
  iintro ⟨#HR, Ht1, Ht2, HhK, HhV, Hc, Hat, Ho, Hk⟩
  unfold ow
  icases Ho with ⟨%W, HO⟩
  rw [dev1_eq c, dev2_eq c]
  iapply (Rounds.wp_signal 𝒱₀ ER (ringRd m) (c : Thread nD τ) none (dst := (prv c : Thread nD τ)) (κ := K (prv c, Fin.last 24))
      (d := true) (by rw [duties_bar]; exact Finset.mem_univ _) ((amount_bar m (prv c) true).trans (by decide)) () (O₁ c) rfl)
    $$ [HO Ht1 HhK]
  · isplitr; · iapply (inv_bar m K (prv c)); iexact HR
    isplitl [HO]; · iexact HO
    isplitl [Ht1]; · iexact Ht1
    isplitl [HhK]; · rw [payload_bar]; unfold barPay; rw [nxt_prv, if_pos rfl]; iexact HhK
    iapply (reached_bar m K (prv c)); iexact HR
  iintro HO
  iapply (Rounds.wp_signal 𝒱₀ ER (ringRd m) (c : Thread nD τ) none (dst := (nxt c : Thread nD τ)) (κ := K (nxt c, Fin.last 24))
      (d := false) (by rw [duties_bar]; exact Finset.mem_univ _) ((amount_bar m (nxt c) false).trans (by decide)) () (owed c 12) rfl)
    $$ [HO Ht2 HhV]
  · isplitr; · iapply (inv_bar m K (nxt c)); iexact HR
    isplitl [HO]; · iexact HO
    isplitl [Ht2]; · iexact Ht2
    isplitl [HhV]; · rw [payload_bar]; unfold barPay; rw [prv_nxt, if_neg Bool.false_ne_true]; iexact HhV
    iapply (reached_bar m K (nxt c)); iexact HR
  iintro HO
  iapply (Rounds.wp_wait_rest_token 𝒱₀ ER (ringRd m) (c : Thread nD τ) none (κ := K (c, Fin.last 24))
      (wpE_semWait_eq 𝒱₀ (c : Thread nD τ) none Set.univ) (Set.mem_univ _) () (O := owed c 12) (W := W) (R := 0) (m := 0) (T := ∅)
      (by rw [expect_bar]; decide)) $$ [Hc HO Hat]
  · isplitr; · iapply (inv_bar m K c); iexact HR
    isplitl [Hc]; · iexact Hc
    isplitl [HO]; · iexact HO
    isplitr; · iapply (mayWait_owed c (.reg barS) 12 (Nat.le_refl _) (by decide)); iapply (records_lev m K); iexact HR
    iexact Hat
  iintro ⟨HO, Hat, -, Hpay⟩
  ihave Hp := (Entails.of_eq (rest_bar m c)) $$ Hpay
  icases Hp with ⟨HV, HK⟩
  iapply (step_ret c)
  iapply Hk
  isplitl [HV]; · iexact HV
  isplitl [HK]; · iexact HK
  isplitl [Hat]; · iexact Hat
  iexists _; iexact HO

/-! ## Loads and stores of whole buffers -/

/-- A load from a held buffer returns the entries it reads, and the buffer is kept. -/
theorem step_ld {α : Type} {Q : α → sProp 𝕄} (c : Dev nD) {sB : Shape} {e : EltTy} {M : Memref sig .tc .vmem sB e} {r : Rect sB}
    {hl : M.view.LoadsAt r.toLoadRect} (X : Buf (Elt F) (M.view.loc (c : Thread nD τ)))
    {Y : r.shape.Idx → Elt F e} (hY : M.view.readAt (Elt F) r.toLoadRect X = Y)
    {k : (r.shape.Idx → Elt F e) → Prog (TpuEff nD τ sig (Elt F) Λ₀ .tc) α} :
    (M.view.loc (c : Thread nD τ) ↦{fullShare} X : sProp 𝕄) ⊢ iprop(((M.view.loc (c : Thread nD τ) ↦{fullShare} X)
      -∗ WP c (k Y) Q) -∗ WP c (.op (.load M r.toLoadRect hl) k) Q) := by
  subst hY
  iintro H Hk
  iapply (wp_load_rect 𝒱₀ (c : Thread nD τ) none Set.univ (m := M) (r := r) (Finset.subset_univ _)) $$ H
  iexact Hk

/-- A store to a held buffer leaves it with the entries written. -/
theorem step_st {α : Type} {Q : α → sProp 𝕄} (c : Dev nD) {sB : Shape} {e : EltTy} {M : Memref sig .tc .vmem sB e} {r : Rect sB}
    {w : r.shape.Idx → Elt F e} {hx : (M.access r).Stores Finset.univ} {hm : (Finset.univ : Finset r.shape.Idx) = Finset.univ ∨ ∀ a, r.stride a = 1}
    (X : Buf (Elt F) (M.view.loc (c : Thread nD τ))) {k : PUnit → Prog (TpuEff nD τ sig (Elt F) Λ₀ .tc) α} :
    (M.view.loc (c : Thread nD τ) ↦{fullShare} X : sProp 𝕄)
      ⊢ iprop(((M.view.loc (c : Thread nD τ) ↦{fullShare} ((M.access r).write (Elt F) X w Finset.univ : Buf (Elt F) (M.view.loc (c : Thread nD τ))))
        -∗ WP c (k ⟨⟩) Q) -∗ WP c (.op (.store M r w Finset.univ hx hm) k) Q) :=
  wp_store 𝒱₀ (c : Thread nD τ) none Set.univ (m := M) (r := r) (Mk := Finset.univ) (Finset.subset_univ _)

/-- The two halves of the partial sums do not meet. -/
theorem kv_disj (y y' : S512x1024.Idx) :
    (Rect.unit (s := S512x2048) ![0, 0] S512x1024.size inb_S512x2048_S512x1024_0_0).emb y
      ≠ (Rect.unit (s := S512x2048) ![0, 1024] S512x1024.size inb_S512x2048_S512x1024_0_1024).emb y' := by
  intro h
  have h1 := congrArg (fun z : S512x2048.Idx => (z 1).val) h
  have h2 := (y 1).isLt
  simp [Rect.emb, Rect.unit] at h1
  simp at h2
  omega

/-- After both stores the scratch buffer holds the partial keys and values side by side. -/
theorem kv_stored (c : Dev nD) (f : (cc0_scratch0 : Ref sig .tc).ty.Contents (Elt F)) :
    kvOK m c (((Memref.whole cc0_scratch0).access (Rect.unit (s := S512x2048) ![0, 1024] S512x1024.size inb_S512x2048_S512x1024_0_1024)).write (Elt F)
      (((Memref.whole cc0_scratch0).access (Rect.unit (s := S512x2048) ![0, 0] S512x1024.size inb_S512x2048_S512x1024_0_0)).write (Elt F)
        f (pK m c) Finset.univ) (pV m c) Finset.univ) := by
  constructor
  · intro y
    rw [View.write_of_not_mem]
    · exact View.write_emb_of_mem (v := (Memref.whole cc0_scratch0).access (Rect.unit (s := S512x2048) ![0, 0] S512x1024.size inb_S512x2048_S512x1024_0_0))
        (Val := Elt F) f (pK m c) (Finset.mem_univ y)
    · rw [View.setOn_univ]
      intro h
      obtain ⟨y', -, hy⟩ := Finset.mem_map.mp h
      exact kv_disj y y' hy.symm
  · intro y
    exact View.write_emb_of_mem (v := (Memref.whole cc0_scratch0).access (Rect.unit (s := S512x2048) ![0, 1024] S512x1024.size inb_S512x2048_S512x1024_0_1024))
        (Val := Elt F) _ (pV m c) (Finset.mem_univ y)

/-- A chunk read from the left half is a chunk of the partial keys. -/
theorem kv_readK (c j : Dev nD) {f : (cc0_scratch0 : Ref sig .tc).ty.Contents (Elt F)} (hf : kvOK m c f) {off : Fin 2 → ℕ} (h : off = ![0, 256 * j.val])
    (inb : ∀ a, off a + S512x256.size a ≤ S512x2048.size a) :
    (Memref.whole cc0_scratch0).view.readAt (Elt F) (Rect.unit (s := S512x2048) off S512x256.size inb).toLoadRect f = kch (pK m c) j := by
  subst h; funext x
  refine Eq.trans ?_ (hf.1 _)
  refine congrArg f (funext fun a => Fin.ext ?_)
  fin_cases a <;> simp [Rect.emb, Rect.unit, View.emb]

/-- A chunk read from the right half is a chunk of the partial values. -/
theorem kv_readV (c j : Dev nD) {f : (cc0_scratch0 : Ref sig .tc).ty.Contents (Elt F)} (hf : kvOK m c f) {off : Fin 2 → ℕ} (h : off = ![0, 1024 + 256 * j.val])
    (inb : ∀ a, off a + S512x256.size a ≤ S512x2048.size a) :
    (Memref.whole cc0_scratch0).view.readAt (Elt F) (Rect.unit (s := S512x2048) off S512x256.size inb).toLoadRect f = kch (pV m c) j := by
  subst h; funext x
  refine Eq.trans ?_ (hf.2 _)
  refine congrArg f (funext fun a => Fin.ext ?_)
  fin_cases a <;> simp [Rect.emb, Rect.unit, View.emb, Nat.add_assoc]

/-- A load of one column chunk of the partial keys. -/
theorem step_kvK {α : Type} {Q : α → sProp 𝕄} (c j : Dev nD) {off : Fin 2 → ℕ} (h : off = ![0, 256 * j.val])
    {inb : ∀ a, off a + S512x256.size a ≤ S512x2048.size a}
    {hl : (Memref.whole cc0_scratch0).view.LoadsAt (Rect.unit (s := S512x2048) off S512x256.size inb).toLoadRect}
    {k : Vec F S512x256 .bf16 → Prog (TpuEff nD τ sig (Elt F) Λ₀ .tc) α} :
    kvHeld m c ⊢ iprop((kvHeld m c -∗ WP c (k (kch (pK m c) j)) Q)
      -∗ WP c (.op (.load (Memref.whole cc0_scratch0) (Rect.unit (s := S512x2048) off S512x256.size inb).toLoadRect hl) k) Q) := by
  unfold kvHeld
  iintro ⟨%f, %hf, H⟩ Hk
  iapply (step_ld c (M := Memref.whole cc0_scratch0) _ rfl) $$ H
  iintro H
  rw [kv_readK m c j hf h inb]
  iapply Hk; iexists f; isplitr; · ipureintro; exact hf
  iexact H

/-- A load of one column chunk of the partial values. -/
theorem step_kvV {α : Type} {Q : α → sProp 𝕄} (c j : Dev nD) {off : Fin 2 → ℕ} (h : off = ![0, 1024 + 256 * j.val])
    {inb : ∀ a, off a + S512x256.size a ≤ S512x2048.size a}
    {hl : (Memref.whole cc0_scratch0).view.LoadsAt (Rect.unit (s := S512x2048) off S512x256.size inb).toLoadRect}
    {k : Vec F S512x256 .bf16 → Prog (TpuEff nD τ sig (Elt F) Λ₀ .tc) α} :
    kvHeld m c ⊢ iprop((kvHeld m c -∗ WP c (k (kch (pV m c) j)) Q)
      -∗ WP c (.op (.load (Memref.whole cc0_scratch0) (Rect.unit (s := S512x2048) off S512x256.size inb).toLoadRect hl) k) Q) := by
  unfold kvHeld
  iintro ⟨%f, %hf, H⟩ Hk
  iapply (step_ld c (M := Memref.whole cc0_scratch0) _ rfl) $$ H
  iintro H
  rw [kv_readV m c j hf h inb]
  iapply Hk; iexists f; isplitr; · ipureintro; exact hf
  iexact H

/-! ## The device's own partial sums -/

/-- The staged blocks the first part reads. -/
abbrev inA (c : Dev nD) : sProp 𝕄 :=
  iprop(stgAt c cc0_stg0_0 (xC m c) ∗ stgAt c cc0_stg1_0 (wdC m c) ∗ stgAt c cc0_stg2_0 (wkC m c) ∗ stgAt c cc0_stg3_0 (wvC m c))
/-- The staged blocks of the query weights. -/
abbrev inB (c : Dev nD) : sProp 𝕄 :=
  iprop(stgAt c cc0_stg4_0 (wqC m c) ∗ stgAt c cc0_stg5_0 (wqrC m c) ∗ stgAt c cc0_stg6_0 (wkrC m c))

/-- The partial keys and values are computed from the staged inputs and stored side by side. -/
theorem part2 (c : Dev nD) (v2 : BitVec 32) (Kt : (Σ' (v33 : FVec F S512x1024 .bf16) (v63 : BitVec 32), BitVec 32) → sProp 𝕄) :
    iprop(inA m c ∗ kvAny (F := F) c ∗ (∀ v63, inA m c ∗ kvHeld m c -∗ Kt ⟨k0_pay2 (xV m c), v63, 256#32⟩))
      ⊢ WP c (atBufs (k0_part2 (F := F)) v2) Kt := by
  rw [k0_part2_eq_skeleton]; unfold k0_part2_skel
  simp only [Prog.lift, Prog.bind_op, Prog.bind_ret, Prog.pure_eq_ret]
  iintro ⟨⟨H0, H1, H2, H3⟩, Hkv, Hk⟩
  unfold kvAny
  icases Hkv with ⟨%f, Hf⟩
  iapply (step_ld c (M := Memref.whole cc0_stg0_0) (xC m c) (Y := xV m c) rfl) $$ H0; iintro H0
  iapply (step_ld c (M := Memref.whole cc0_stg1_0) (wdC m c) (Y := wdV m c) rfl) $$ H1; iintro H1
  iapply (step_ld c (M := Memref.whole cc0_stg2_0) (wkC m c) (Y := wkV m c) rfl) $$ H2; iintro H2
  iapply (step_ld c (M := Memref.whole cc0_scratch0) _ rfl) $$ Hf; iintro Hf
  iapply (step_st c (M := Memref.whole cc0_scratch0)) $$ Hf
  iintro Hf
  iapply (step_ld c (M := Memref.whole cc0_stg3_0) (wvC m c) (Y := wvV m c) rfl) $$ H3; iintro H3
  iapply (step_ld c (M := Memref.whole cc0_scratch0) _ rfl) $$ Hf; iintro Hf
  iapply (step_st c (M := Memref.whole cc0_scratch0)) $$ Hf
  iintro Hf
  iapply (step_ret c)
  iapply Hk
  isplitl [H0 H1 H2 H3]
  · isplitl [H0]; · iexact H0
    isplitl [H1]; · iexact H1
    isplitl [H2]; · iexact H2
    iexact H3
  unfold kvHeld; iexists _; isplitr
  rotate_left
  · iexact Hf
  · ipureintro; exact kv_stored m c f

/-- The first keys sent are the chunk of the left neighbour. -/
theorem off1_0 (c : Dev nD) : k0_off1 c 1#32 = ![0, 256 * (prv c).val] := by revert c; decide
/-- The first values sent are the chunk of the right neighbour. -/
theorem off2_0 (c : Dev nD) : k0_off2 c 1#32 = ![0, 1024 + 256 * (nxt c).val] := by revert c; decide

/-- The first chunks of keys and values are put in their send slots. -/
theorem part3 (c : Dev nD) (v2 v25 v63 c256 : BitVec 32) (Kt : PUnit → sProp 𝕄) :
    iprop(kvHeld m c ∗ boxAny c ksM rk0 ∗ boxAny c vsM rk0
        ∗ (kvHeld m c ∗ box c ksM rk0 fullShare (KS m 0 c) ∗ box c vsM rk0 fullShare (VS m 0 c) -∗ Kt ⟨⟩))
      ⊢ WP c (atBufs (k0_part3 (F := F)) c v2 v25 v63 c256) Kt := by
  rw [k0_part3_eq_skeleton]; unfold k0_part3_skel
  simp only [Prog.lift, Prog.bind_op, Prog.bind_ret, Prog.pure_eq_ret]
  iintro ⟨Hkv, H10, H12, Hk⟩
  iapply (step_kvK m c (prv c) (off1_0 c)) $$ Hkv; iintro Hkv
  iapply (step_load_any c) $$ H10; iintro %_ H10
  iapply (step_store c) $$ H10; iintro H10
  iapply (step_kvV m c (nxt c) (off2_0 c)) $$ Hkv; iintro Hkv
  iapply (step_load_any c) $$ H12; iintro %_ H12
  iapply (step_store c) $$ H12; iintro H12
  iapply (step_ret c)
  iapply Hk
  isplitl [Hkv]; · iexact Hkv
  isplitl [H10]; · iexact H10
  iexact H12

/-! ## The reduce-scatter rings -/

/-- What is sent to the right neighbour is what that neighbour receives from its left one. -/
theorem to_nxt {sB : Shape} {e : EltTy} (M : Memref sig .tc .vmem sB e) (r : Rect sB) (Y : Dev nD → r.shape.Idx → Elt F e) (c : Dev nD) :
    box (nxt c) M r fullShare (Y c) ⊢ (box (nxt c) M r fullShare (Y (prv (nxt c))) : sProp 𝕄) := by rw [prv_nxt]
/-- What is sent to the left neighbour is what that neighbour receives from its right one. -/
theorem to_prv {sB : Shape} {e : EltTy} (M : Memref sig .tc .vmem sB e) (r : Rect sB) (Y : Dev nD → r.shape.Idx → Elt F e) (c : Dev nD) :
    box (prv c) M r fullShare (Y c) ⊢ (box (prv c) M r fullShare (Y (nxt (prv c))) : sProp 𝕄) := by rw [nxt_prv]

/-- The destination of transfer 0. -/
theorem dev3_eq (c : Dev nD) : (⟨k0_dev3 c, k0_dev3_lt c⟩ : Dev nD) = tgt 0 c := by revert c; decide
/-- The destination of transfer 1. -/
theorem dev4_eq (c : Dev nD) : (⟨k0_dev4 c, k0_dev4_lt c⟩ : Dev nD) = tgt 1 c := by revert c; decide

/-- A send of transfer `i`. -/
theorem do_send {α : Type} {Q : α → sProp 𝕄} {k : PUnit → Prog (TpuEff nD τ sig (Elt F) Λ₀ .tc) α} (c n t : Dev nD) (i : Fin 12) (hn : n = tgt i c) (ht : t = tgt i c) {sS sR : DmaSem sig} (hS : sS = xs (sIx i)) (hR : sR = xs (rIx i))
    {sB s2 : Shape} {e : EltTy} {M M' : Memref sig .tc .vmem sB e} {size off off' : Fin sB.rank → ℕ} {inb : ∀ a, off a + size a ≤ sB.size a}
    {inb' : ∀ a, off' a + size a ≤ sB.size a} {hq : (Rect.unit off size inb).shape.Squeezes s2} {hq' : (Rect.unit off' size inb').shape.Squeezes s2}
    {hsc : ((M'.slice (Rect.unit off' size inb') (fun _ => rfl)).squeeze s2 hq').view.ref.isScScratch = false}
    {hsrc : ((M.slice (Rect.unit off size inb) (fun _ => rfl)).squeeze s2 hq).view.WordExact}
    {hdst : ((M'.slice (Rect.unit off' size inb') (fun _ => rfl)).squeeze s2 hq').view.WordExact}
    {hsem : DmaTarget.Typed .vmem (.dma sR) (.remote (Dev.tc n : Thread nD τ) ((M'.slice (Rect.unit off' size inb') (fun _ => rfl)).squeeze s2 hq') (.dma sS) hsc)}
    (j : ℕ) (hj : i = ixOf j) (q : PosShare TreeShare) (Y : (Rect.unit off size inb).shape.Idx → Elt F e)
    (hN : ((M'.slice (Rect.unit off' size inb') (fun _ => rfl)).squeeze s2 hq').view.dmaCredit = amt (rIx i))
    (hp1 : box c M (Rect.unit off size inb) q Y ⊢ dmaPay m c (sIx i).val)
    (hp2 : box t M' (Rect.unit off' size inb') fullShare Y ⊢ dmaPay m t (rIx i).val) :
    ⊢ iprop(records m K -∗ xtok c i -∗ box c M (Rect.unit off size inb) q Y -∗ boxAny t M' (Rect.unit off' size inb') -∗ ow c (owed c (j + 1))
        -∗ ((cS c i ∗ ow c (owed c j)) -∗ WP c (k ⟨⟩) Q)
          -∗ WP c
              (.op (.enqueueDma ((M.slice (Rect.unit off size inb) (fun _ => rfl)).squeeze s2 hq)
                (.remote (Dev.tc n : Thread nD τ) ((M'.slice (Rect.unit off' size inb') (fun _ => rfl)).squeeze s2 hq') (.dma sS) hsc) (.dma sR) hsrc hdst hsem) k) Q) := by
  subst ht
  iintro HR Ht Hb Hd Ho
  iapply (step_send m K c n i hn hS hR q Y hN hp1 hp2 j hj)
  iframe

/-- A wait on one of the device's own transfer cells. -/
theorem do_wait {α : Type} {Q : α → sProp 𝕄} (c : Dev nD) (kk : Fin 24) (n : ℕ) {sm : DmaSem sig}
    {s₁ s₂ : Shape} {e : EltTy} {src : Memref sig .tc .vmem s₂ e} {dst : Memref sig .tc .vmem s₁ e} {h1 : src.view.WordExact} {h2 : dst.view.WordExact}
    {k : PUnit → Prog (TpuEff nD τ sig (Elt F) Λ₀ .tc) α}
    (hn : n ≤ 12) (hl : lvX kk.val < 14 - n) (hs : sm = xs kk) (hN : dst.view.dmaCredit = amt kk) {P : sProp 𝕄} (hP : dmaPay m c kk.val ⊢ P) :
    ⊢ iprop(records m K -∗ cred (tallyAt (xCell c kk) () (amt kk)) -∗ atPos ER (xCell c kk) 0 ∅ 0 -∗ ow c (owed c n)
        -∗ ((P ∗ atPos ER (xCell c kk) 1 ∅ 0 ∗ ow c (owed c n)) -∗ WP c (k ⟨⟩) Q)
        -∗ WP c (.op (.waitDma2 sm src dst h1 h2) k) Q) := by
  iintro HR Hc Hp Ho
  iapply (step_wait m K c kk n hn hl (wpE_waitDma2_eq 𝒱₀ (c : Thread nD τ) none Set.univ) hs hN hP)
  iframe

end Cert.KernelIdeal.Ring
-- ==== Proof.RingI.BodyB.lean ====
/-
The two reduce-scatter rings, part by part.
-/
module

public import proofs.«01_k».proof.Proof.RingI.BodyA

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 25 → ℕ)

/-! ## The targets and the column chunks -/

/-- The destination of transfer 2. -/
theorem dev5_eq (c : Dev nD) : (⟨k0_dev5 c, k0_dev5_lt c⟩ : Dev nD) = tgt 2 c := by revert c; decide
/-- The destination of transfer 3. -/
theorem dev6_eq (c : Dev nD) : (⟨k0_dev6 c, k0_dev6_lt c⟩ : Dev nD) = tgt 3 c := by revert c; decide
/-- The destination of transfer 4. -/
theorem dev7_eq (c : Dev nD) : (⟨k0_dev7 c, k0_dev7_lt c⟩ : Dev nD) = tgt 4 c := by revert c; decide
/-- The destination of transfer 5. -/
theorem dev8_eq (c : Dev nD) : (⟨k0_dev8 c, k0_dev8_lt c⟩ : Dev nD) = tgt 5 c := by revert c; decide
/-- The second keys sent are the chunk two places to the left. -/
theorem off1_1 (c : Dev nD) : k0_off1 c 2#32 = ![0, 256 * (prv (prv c)).val] := by revert c; decide
/-- The second values sent are the chunk two places to the right. -/
theorem off2_1 (c : Dev nD) : k0_off2 c 2#32 = ![0, 1024 + 256 * (nxt (nxt c)).val] := by revert c; decide
/-- The third keys sent are the chunk of the right neighbour. -/
theorem off5_0 (c : Dev nD) : k0_off5 c = ![0, 256 * (nxt c).val] := by revert c; decide
/-- The third values sent are the chunk of the left neighbour. -/
theorem off6_0 (c : Dev nD) : k0_off6 c = ![0, 1024 + 256 * (prv c).val] := by revert c; decide
/-- The last keys added are the device's own chunk. -/
theorem off7_0 (c : Dev nD) : k0_off7 c = ![0, 256 * c.val] := by revert c; decide
/-- The last values added are the device's own chunk. -/
theorem off8_0 (c : Dev nD) : k0_off8 c = ![0, 1024 + 256 * c.val] := by revert c; decide

/-! ## The first step -/

/-- The first keys and values are sent both ways, and the queries, rotary queries and rotary keys computed. -/
theorem part4 (c : Dev nD) (v2 v14 : BitVec 32) (Kt : (Σ' (v113 : FVec F S512x256 .bf16) (v119 : FVec F S512x128 .bf16), FVec F S512x32 .bf16) → sProp 𝕄) :
    iprop(records m K ∗ xtok c 0 ∗ xtok c 1 ∗ box c ksM rk0 fullShare (KS m 0 c) ∗ box c vsM rk0 fullShare (VS m 0 c)
        ∗ boxAny (nxt c) krM rk0 ∗ boxAny (prv c) vrM rk0 ∗ inB m c ∗ ow c (owed c 12)
        ∗ (cS c 0 ∗ cS c 1 ∗ inB m c ∗ ow c (owed c 10) -∗ Kt ⟨qV m c, qrV m c, krV m c⟩))
      ⊢ WP c (atBufs (k0_part4 (F := F)) c v2 v14 (k0_pay2 (xV m c))) Kt := by
  rw [k0_part4_eq_skeleton]; unfold k0_part4_skel
  simp only [Prog.lift, Prog.bind_op, Prog.bind_ret, Prog.pure_eq_ret]
  iintro ⟨#HR, Hx0, Hx1, H10, H12, H11, H13, ⟨H4, H5, H6⟩, Ho, Hk⟩
  iapply (do_send m K c _ (nxt c) 0 (dev3_eq c) (by rfl) (by rfl) (by rfl) 11 (by decide) fullShare (KS m 0 c) (by rfl) (by exact .rfl)
    (by exact to_nxt krM rk0 (KS m 0) c)) $$ HR Hx0 H10 H11 Ho
  iintro ⟨Hc0, Ho⟩
  iapply (do_send m K c _ (prv c) 1 (dev4_eq c) (by rfl) (by rfl) (by rfl) 10 (by decide) fullShare (VS m 0 c) (by rfl) (by exact .rfl)
    (by exact to_prv vrM rk0 (VS m 0) c)) $$ HR Hx1 H12 H13 Ho
  iintro ⟨Hc1, Ho⟩
  iapply (step_ld c (M := Memref.whole cc0_stg4_0) (wqC m c) (Y := wqV m c) rfl) $$ H4; iintro H4
  iapply (step_ld c (M := Memref.whole cc0_stg5_0) (wqrC m c) (Y := wqrV m c) rfl) $$ H5; iintro H5
  iapply (step_ld c (M := Memref.whole cc0_stg6_0) (wkrC m c) (Y := wkrV m c) rfl) $$ H6; iintro H6
  iapply (step_ret c)
  unfold qV qrV krV
  iapply Hk
  iframe
  isplitl [H4]; · iexact H4
  isplitl [H5]; · iexact H5
  iexact H6

/-- The first keys are sent and received, and the first values sent: the source and received boxes come back. -/
theorem part5 (c : Dev nD) (v14 v25 : BitVec 32) (Kt : (Σ' (v144 : BitVec 32), BitVec 32) → sProp 𝕄) :
    iprop(records m K ∗ pS c 0 0 ∗ pR c 0 0 ∗ pS c 1 0 ∗ cS c 0 ∗ cR c 0 ∗ cS c 1 ∗ ow c (owed c 10)
        ∗ (∀ v144, pS c 0 1 ∗ pR c 0 1 ∗ pS c 1 1 ∗ box c ksM rk0 fullShare (KS m 0 c) ∗ box c krM rk0 fullShare (KS m 0 (prv c))
            ∗ box c vsM rk0 fullShare (VS m 0 c) ∗ ow c (owed c 10) -∗ Kt ⟨v144, 0#32⟩))
      ⊢ WP c (atBufs (k0_part5 (F := F)) v14 v25) Kt := by
  rw [k0_part5_eq_skeleton]; unfold k0_part5_skel
  simp only [Prog.lift, Prog.bind_op, Prog.bind_ret, Prog.pure_eq_ret]
  iintro ⟨#HR, Hp0, Hq0, Hp1, Hc0, Hd0, Hc1, Ho, Hk⟩
  iapply (do_wait m K c (sIx 0) 10 (by decide) (by decide) (by rfl) (by rfl)
    (P := box c ksM rk0 fullShare (KS m 0 c)) (by exact .rfl)) $$ HR Hc0 Hp0 Ho
  iintro ⟨H10, Hp0, Ho⟩
  iapply (do_wait m K c (rIx 0) 10 (by decide) (by decide) (by rfl) (by rfl)
    (P := box c krM rk0 fullShare (KS m 0 (prv c))) (by exact .rfl)) $$ HR Hd0 Hq0 Ho
  iintro ⟨H11, Hq0, Ho⟩
  iapply (do_wait m K c (sIx 1) 10 (by decide) (by decide) (by rfl) (by rfl)
    (P := box c vsM rk0 fullShare (VS m 0 c)) (by exact .rfl)) $$ HR Hc1 Hp1 Ho
  iintro ⟨H12, Hp1, Ho⟩
  iapply (step_ret c)
  iapply Hk
  iframe

/-- The first values are received, and the second keys to send are summed and stored. -/
theorem part6 (c : Dev nD) (v2 v144 v145 : BitVec 32) (Kt : (Σ' (v174 : FVec F S512x256 .bf16) (v175 : BitVec 32) (c4 : BitVec 32), BitVec 1) → sProp 𝕄) :
    iprop(records m K ∗ pR c 1 0 ∗ cR c 1 ∗ box c krM rk0 fullShare (KS m 0 (prv c)) ∗ kvHeld m c ∗ boxAny c ksM rk1 ∗ ow c (owed c 10)
        ∗ (∀ v175, ∀ v176, pR c 1 1 ∗ box c krM rk0 fullShare (KS m 0 (prv c)) ∗ box c vrM rk0 fullShare (VS m 0 (nxt c)) ∗ kvHeld m c
            ∗ box c ksM rk1 fullShare (KS m 1 c) ∗ ow c (owed c 10) -∗ Kt ⟨k0_pay12 (VS m 0 (nxt c)), v175, 4#32, v176⟩))
      ⊢ WP c (atBufs (k0_part6 (F := F)) c v2 v144 v145) Kt := by
  rw [k0_part6_eq_skeleton]; unfold k0_part6_skel
  simp only [Prog.lift, Prog.bind_op, Prog.bind_ret, Prog.pure_eq_ret]
  iintro ⟨#HR, Hq1, Hd1, H11, Hkv, H10, Ho, Hk⟩
  iapply (do_wait m K c (rIx 1) 10 (by decide) (by decide) (by rfl) (by rfl)
    (P := box c vrM rk0 fullShare (VS m 0 (nxt c))) (by exact .rfl)) $$ HR Hd1 Hq1 Ho
  iintro ⟨H13, Hq1, Ho⟩
  iapply (step_load c) $$ H11; iintro H11
  iapply (step_kvK m c _ (off1_1 c)) $$ Hkv; iintro Hkv
  iapply (step_load_any c) $$ H10; iintro %_ H10
  iapply (step_store c) $$ H10; iintro H10
  iapply (step_load c) $$ H13; iintro H13
  iapply (step_ret c)
  iapply Hk
  iframe
  iexact H10

/-! ## The second step -/

/-- The second values to send are summed and stored, and the second keys sent. -/
theorem part7 (c : Dev nD) (v14 v25 v175 c4 : BitVec 32) (v176 : BitVec 1) (Kt : (Σ' (v204 : BitVec 32), BitVec 32) → sProp 𝕄) :
    iprop(records m K ∗ xtok c 2 ∗ kvHeld m c ∗ boxAny c vsM rk1 ∗ box c ksM rk1 fullShare (KS m 1 c) ∗ boxAny (nxt c) krM rk1 ∗ ow c (owed c 10)
        ∗ (∀ v204, kvHeld m c ∗ box c vsM rk1 fullShare (VS m 1 c) ∗ cS c 2 ∗ ow c (owed c 9) -∗ Kt ⟨v204, 0#32⟩))
      ⊢ WP c (atBufs (k0_part7 (F := F)) c v14 v25 (k0_pay12 (VS m 0 (nxt c))) v175 c4 v176) Kt := by
  rw [k0_part7_eq_skeleton]; unfold k0_part7_skel
  simp only [Prog.lift, Prog.bind_op, Prog.bind_ret, Prog.pure_eq_ret]
  iintro ⟨#HR, Hx2, Hkv, H12, H10, H11, Ho, Hk⟩
  iapply (step_kvV m c _ (off2_1 c)) $$ Hkv; iintro Hkv
  iapply (step_load_any c) $$ H12; iintro %_ H12
  iapply (step_store c) $$ H12; iintro H12
  iapply (do_send m K c _ (nxt c) 2 (dev5_eq c) (by rfl) (by rfl) (by rfl) 9 (by decide) fullShare (KS m 1 c) (by rfl) (by exact .rfl)
    (by exact to_nxt krM rk1 (KS m 1) c)) $$ HR Hx2 H10 H11 Ho
  iintro ⟨Hc2, Ho⟩
  iapply (step_ret c)
  iapply Hk
  iframe
  iexact H12

/-- The second values are sent, the rotary scores of all eight heads computed, and the keys' source box comes back. -/
theorem part8 (c : Dev nD) (v204 c0 : BitVec 32) (Kt : (Σ' (v216 : FVec F S256x256 .f32) (v218 : FVec F S256x256 .f32) (v220 : FVec F S256x256 .f32) (v222 : FVec F S256x256 .f32) (v225 : FVec F S256x256 .f32) (v227 : FVec F S256x256 .f32) (v229 : FVec F S256x256 .f32), FVec F S256x256 .f32) → sProp 𝕄) :
    iprop(records m K ∗ xtok c 3 ∗ box c vsM rk1 fullShare (VS m 1 c) ∗ boxAny (prv c) vrM rk1 ∗ ow c (owed c 9) ∗ pS c 2 0 ∗ cS c 2
        ∗ (cS c 3 ∗ pS c 2 1 ∗ box c ksM rk1 fullShare (KS m 1 c) ∗ ow c (owed c 8) -∗ Kt ⟨s00 m c, s01 m c, s02 m c, s03 m c, s10 m c, s11 m c, s12 m c, s13 m c⟩))
      ⊢ WP c (atBufs (k0_part8 (F := F)) c (qrV m c) (krV m c) v204 c0) Kt := by
  rw [k0_part8_eq_skeleton]; unfold k0_part8_skel
  simp only [Prog.lift, Prog.bind_op, Prog.bind_ret, Prog.pure_eq_ret]
  iintro ⟨#HR, Hx3, H12, H13, Ho, Hp2, Hc2, Hk⟩
  iapply (do_send m K c _ (prv c) 3 (dev6_eq c) (by rfl) (by rfl) (by rfl) 8 (by decide) fullShare (VS m 1 c) (by rfl) (by exact .rfl)
    (by exact to_prv vrM rk1 (VS m 1) c)) $$ HR Hx3 H12 H13 Ho
  iintro ⟨Hc3, Ho⟩
  iapply (do_wait m K c (sIx 2) 8 (by decide) (by decide) (by rfl) (by rfl)
    (P := box c ksM rk1 fullShare (KS m 1 c)) (by exact .rfl)) $$ HR Hc2 Hp2 Ho
  iintro ⟨H10, Hp2, Ho⟩
  iapply (step_ret c)
  unfold s00 s01 s02 s03 s10 s11 s12 s13
  iapply Hk
  iframe

/-- The second keys are received, and the second values sent and received. -/
theorem part9 (c : Dev nD) (v14 v25 : BitVec 32) (Kt : PUnit → sProp 𝕄) :
    iprop(records m K ∗ pR c 2 0 ∗ cR c 2 ∗ pS c 3 0 ∗ cS c 3 ∗ pR c 3 0 ∗ cR c 3 ∗ ow c (owed c 8)
        ∗ (pR c 2 1 ∗ pS c 3 1 ∗ pR c 3 1 ∗ box c krM rk1 fullShare (KS m 1 (prv c)) ∗ box c vsM rk1 fullShare (VS m 1 c)
            ∗ box c vrM rk1 fullShare (VS m 1 (nxt c)) ∗ ow c (owed c 8) -∗ Kt ⟨⟩))
      ⊢ WP c (atBufs (k0_part9 (F := F)) v14 v25) Kt := by
  rw [k0_part9_eq_skeleton]; unfold k0_part9_skel
  simp only [Prog.lift, Prog.bind_op, Prog.bind_ret, Prog.pure_eq_ret]
  iintro ⟨#HR, Hq2, Hd2, Hp3, Hc3, Hq3, Hd3, Ho, Hk⟩
  iapply (do_wait m K c (rIx 2) 8 (by decide) (by decide) (by rfl) (by rfl)
    (P := box c krM rk1 fullShare (KS m 1 (prv c))) (by exact .rfl)) $$ HR Hd2 Hq2 Ho
  iintro ⟨H11, Hq2, Ho⟩
  iapply (do_wait m K c (sIx 3) 8 (by decide) (by decide) (by rfl) (by rfl)
    (P := box c vsM rk1 fullShare (VS m 1 c)) (by exact .rfl)) $$ HR Hc3 Hp3 Ho
  iintro ⟨H12, Hp3, Ho⟩
  iapply (do_wait m K c (rIx 3) 8 (by decide) (by decide) (by rfl) (by rfl)
    (P := box c vrM rk1 fullShare (VS m 1 (nxt c))) (by exact .rfl)) $$ HR Hd3 Hq3 Ho
  iintro ⟨H13, Hq3, Ho⟩
  iapply (step_ret c)
  iapply Hk
  iframe

/-! ## The third step -/

/-- The third keys to send are summed and stored. -/
theorem part10 (c : Dev nD) (v2 : BitVec 32) (Kt : (Σ' (v281 : FVec F S512x256 .bf16) (v293 : BitVec 32), BitVec 32) → sProp 𝕄) :
    iprop(box c krM rk1 fullShare (KS m 1 (prv c)) ∗ kvHeld m c ∗ boxAny c ksM rk2 ∗ box c vrM rk1 fullShare (VS m 1 (nxt c))
        ∗ (∀ v293, box c krM rk1 fullShare (KS m 1 (prv c)) ∗ kvHeld m c ∗ box c ksM rk2 fullShare (KS m 2 c) ∗ box c vrM rk1 fullShare (VS m 1 (nxt c)) -∗ Kt ⟨k0_pay25 (VS m 1 (nxt c)), v293, 256#32⟩))
      ⊢ WP c (atBufs (k0_part10 (F := F)) c v2) Kt := by
  rw [k0_part10_eq_skeleton]; unfold k0_part10_skel
  simp only [Prog.lift, Prog.bind_op, Prog.bind_ret, Prog.pure_eq_ret]
  iintro ⟨H11, Hkv, H10, H13, Hk⟩
  iapply (step_load c) $$ H11; iintro H11
  iapply (step_kvK m c _ (off5_0 c)) $$ Hkv; iintro Hkv
  iapply (step_load_any c) $$ H10; iintro %_ H10
  iapply (step_store c) $$ H10; iintro H10
  iapply (step_load c) $$ H13; iintro H13
  iapply (step_ret c)
  iapply Hk
  iframe
  iexact H10

/-- The third values to send are summed and stored, and the third keys and values sent. -/
theorem part11 (c : Dev nD) (v14 v25 v293 c256 : BitVec 32) (Kt : PUnit → sProp 𝕄) :
    iprop(records m K ∗ xtok c 4 ∗ xtok c 5 ∗ kvHeld m c ∗ boxAny c vsM rk2 ∗ box c ksM rk2 fullShare (KS m 2 c) ∗ boxAny (nxt c) krM rk2
        ∗ boxAny (prv c) vrM rk2 ∗ ow c (owed c 8)
        ∗ (kvHeld m c ∗ cS c 4 ∗ cS c 5 ∗ ow c (owed c 6) -∗ Kt ⟨⟩))
      ⊢ WP c (atBufs (k0_part11 (F := F)) c v14 v25 (k0_pay25 (VS m 1 (nxt c))) v293 c256) Kt := by
  rw [k0_part11_eq_skeleton]; unfold k0_part11_skel
  simp only [Prog.lift, Prog.bind_op, Prog.bind_ret, Prog.pure_eq_ret]
  iintro ⟨#HR, Hx4, Hx5, Hkv, H12, H10, H11, H13, Ho, Hk⟩
  iapply (step_kvV m c _ (off6_0 c)) $$ Hkv; iintro Hkv
  iapply (step_load_any c) $$ H12; iintro %_ H12
  iapply (step_store c) $$ H12; iintro H12
  iapply (do_send m K c _ (nxt c) 4 (dev7_eq c) (by rfl) (by rfl) (by rfl) 7 (by decide) fullShare (KS m 2 c) (by rfl) (by exact .rfl)
    (by exact to_nxt krM rk2 (KS m 2) c)) $$ HR Hx4 H10 H11 Ho
  iintro ⟨Hc4, Ho⟩
  iapply (do_send m K c _ (prv c) 5 (dev8_eq c) (by rfl) (by rfl) (by rfl) 6 (by decide) fullShare (VS m 2 c) (by rfl) (by exact .rfl)
    (by exact to_prv vrM rk2 (VS m 2) c)) $$ HR Hx5 H12 H13 Ho
  iintro ⟨Hc5, Ho⟩
  iapply (step_ret c)
  iapply Hk
  iframe

/-- The third keys are sent and received, and the third values sent. -/
theorem part12 (c : Dev nD) (v25 : BitVec 32) (Kt : PUnit → sProp 𝕄) :
    iprop(records m K ∗ pS c 4 0 ∗ cS c 4 ∗ pR c 4 0 ∗ cR c 4 ∗ pS c 5 0 ∗ cS c 5 ∗ ow c (owed c 6)
        ∗ (pS c 4 1 ∗ pR c 4 1 ∗ pS c 5 1 ∗ box c ksM rk2 fullShare (KS m 2 c) ∗ box c krM rk2 fullShare (KS m 2 (prv c))
            ∗ box c vsM rk2 fullShare (VS m 2 c) ∗ ow c (owed c 6) -∗ Kt ⟨⟩))
      ⊢ WP c (atBufs (k0_part12 (F := F)) v25) Kt := by
  rw [k0_part12_eq_skeleton]; unfold k0_part12_skel
  simp only [Prog.lift, Prog.bind_op, Prog.bind_ret, Prog.pure_eq_ret]
  iintro ⟨#HR, Hp4, Hc4, Hq4, Hd4, Hp5, Hc5, Ho, Hk⟩
  iapply (do_wait m K c (sIx 4) 6 (by decide) (by decide) (by rfl) (by rfl)
    (P := box c ksM rk2 fullShare (KS m 2 c)) (by exact .rfl)) $$ HR Hc4 Hp4 Ho
  iintro ⟨H10, Hp4, Ho⟩
  iapply (do_wait m K c (rIx 4) 6 (by decide) (by decide) (by rfl) (by rfl)
    (P := box c krM rk2 fullShare (KS m 2 (prv c))) (by exact .rfl)) $$ HR Hd4 Hq4 Ho
  iintro ⟨H11, Hq4, Ho⟩
  iapply (do_wait m K c (sIx 5) 6 (by decide) (by decide) (by rfl) (by rfl)
    (P := box c vsM rk2 fullShare (VS m 2 c)) (by exact .rfl)) $$ HR Hc5 Hp5 Ho
  iintro ⟨H12, Hp5, Ho⟩
  iapply (step_ret c)
  iapply Hk
  iframe

/-- The third values are received, the device's own keys and values summed, and the first head's scores begun. -/
theorem part13 (c : Dev nD) (v2 v14 : BitVec 32) (Kt : (Σ' (v355 : FVec F S512x256 .bf16) (v362 : FVec F S512x256 .bf16) (v373 : FVec F S256x256 .f32), FVec F S256x256 .f32) → sProp 𝕄) :
    iprop(records m K ∗ pR c 5 0 ∗ cR c 5 ∗ box c krM rk2 fullShare (KS m 2 (prv c)) ∗ kvHeld m c ∗ ow c (owed c 6)
        ∗ (pR c 5 1 ∗ box c krM rk2 fullShare (KS m 2 (prv c)) ∗ box c vrM rk2 fullShare (VS m 2 (nxt c)) ∗ kvHeld m c ∗ ow c (owed c 6) -∗ Kt ⟨kMy m c, vMy m c, k0_pay29 (qV m c) (s00 m c) (kIn m c) (kOwn m c), k0_pay30 (qV m c) (s00 m c) (kIn m c) (kOwn m c)⟩))
      ⊢ WP c (atBufs (k0_part13 (F := F)) c v2 v14 (qV m c) (s00 m c)) Kt := by
  rw [k0_part13_eq_skeleton]; unfold k0_part13_skel
  simp only [Prog.lift, Prog.bind_op, Prog.bind_ret, Prog.pure_eq_ret]
  iintro ⟨#HR, Hq5, Hd5, H11, Hkv, Ho, Hk⟩
  iapply (do_wait m K c (rIx 5) 6 (by decide) (by decide) (by rfl) (by rfl)
    (P := box c vrM rk2 fullShare (VS m 2 (nxt c))) (by exact .rfl)) $$ HR Hd5 Hq5 Ho
  iintro ⟨H13, Hq5, Ho⟩
  iapply (step_load c) $$ H11; iintro H11
  iapply (step_kvK m c _ (off7_0 c)) $$ Hkv; iintro Hkv
  iapply (step_load c) $$ H13; iintro H13
  iapply (step_kvV m c _ (off8_0 c)) $$ Hkv; iintro Hkv
  iapply (step_ret c)
  unfold kMy vMy kIn vIn kOwn vOwn
  iapply Hk
  iframe

end Cert.KernelIdeal.Ring
-- ==== Proof.RingI.BodyC.lean ====
/-
The head outputs, the two all-gather rings and the output projection, part by part.
-/
module

public import proofs.«01_k».proof.Proof.RingI.BodyB

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 25 → ℕ)

/-! ## The targets -/

/-- The destination of transfer 6. -/
theorem dev9_eq (c : Dev nD) : (⟨k0_dev9 c, k0_dev9_lt c⟩ : Dev nD) = tgt 6 c := by revert c; decide
/-- The destination of transfer 7. -/
theorem dev10_eq (c : Dev nD) : (⟨k0_dev10 c, k0_dev10_lt c⟩ : Dev nD) = tgt 7 c := by revert c; decide
/-- The destination of transfer 8. -/
theorem dev11_eq (c : Dev nD) : (⟨k0_dev11 c, k0_dev11_lt c⟩ : Dev nD) = tgt 8 c := by revert c; decide
/-- The destination of transfer 9. -/
theorem dev12_eq (c : Dev nD) : (⟨k0_dev12 c, k0_dev12_lt c⟩ : Dev nD) = tgt 9 c := by revert c; decide
/-- The destination of transfer 10. -/
theorem dev13_eq (c : Dev nD) : (⟨k0_dev13 c, k0_dev13_lt c⟩ : Dev nD) = tgt 10 c := by revert c; decide
/-- The destination of transfer 11. -/
theorem dev14_eq (c : Dev nD) : (⟨k0_dev14 c, k0_dev14_lt c⟩ : Dev nD) = tgt 11 c := by revert c; decide

/-! ## A box written in four quarters -/

abbrev rq00 : Rect S4x512x128 := Rect.unit (s := S4x512x128) ![0, 0, 0] S1x256x64.size inb_S4x512x128_S1x256x64_0_0_0
abbrev rq01 : Rect S4x512x128 := Rect.unit (s := S4x512x128) ![0, 0, 64] S1x256x64.size inb_S4x512x128_S1x256x64_0_0_64
abbrev rq10 : Rect S4x512x128 := Rect.unit (s := S4x512x128) ![0, 256, 0] S1x256x64.size inb_S4x512x128_S1x256x64_0_256_0
abbrev rq11 : Rect S4x512x128 := Rect.unit (s := S4x512x128) ![0, 256, 64] S1x256x64.size inb_S4x512x128_S1x256x64_0_256_64

/-- A rectangle inside the first slot covers part of the slot's elements. -/
theorem quarter_sub (M : Memref sig .tc .vmem S4x512x128 .bf16) (off : Fin 3 → ℕ) (inb : ∀ a, off a + S1x256x64.size a ≤ S4x512x128.size a)
    (h : off 0 = 0) : (M.access (Rect.unit (s := S4x512x128) off S1x256x64.size inb)).set ⊆ (M.access ra0).set := by
  intro i hi
  obtain ⟨z, -, hz⟩ := Finset.mem_map.mp hi
  have h1 := inb 1
  have h2 := inb 2
  have z0 := (z 0).isLt
  have z1 := (z 1).isLt
  have z2 := (z 2).isLt
  simp at h1 h2 z0 z1 z2
  refine Finset.mem_map.mpr ⟨fun a => ⟨off a + (z a).val, ?_⟩, Finset.mem_univ _, ?_⟩
  · fin_cases a <;> simp <;> omega
  · refine Eq.trans ?_ hz
    refine congrArg M.view.emb (funext fun a => Fin.ext ?_)
    fin_cases a <;> simp [Rect.emb, Rect.unit]

variable {M : Memref sig .tc .vmem S4x512x128 .bf16} {c : Dev nD}

/-- What is known of a box after its first, first two, first three quarters were written. -/
def q1 (M : Memref sig .tc .vmem S4x512x128 .bf16) (c : Dev nD) (p00 : Vec F S1x256x64 .bf16) (f : Buf (Elt F) (M.view.loc (c : Thread nD τ))) : Prop :=
  ∃ g : Buf (Elt F) (M.view.loc (c : Thread nD τ)), f = (M.access rq00).write (Elt F) g p00 Finset.univ
def q2 (M : Memref sig .tc .vmem S4x512x128 .bf16) (c : Dev nD) (p00 p01 : Vec F S1x256x64 .bf16) (f : Buf (Elt F) (M.view.loc (c : Thread nD τ))) : Prop :=
  ∃ g : Buf (Elt F) (M.view.loc (c : Thread nD τ)), q1 M c p00 g ∧ f = (M.access rq01).write (Elt F) g p01 Finset.univ
def q3 (M : Memref sig .tc .vmem S4x512x128 .bf16) (c : Dev nD) (p00 p01 p10 : Vec F S1x256x64 .bf16) (f : Buf (Elt F) (M.view.loc (c : Thread nD τ))) : Prop :=
  ∃ g : Buf (Elt F) (M.view.loc (c : Thread nD τ)), q2 M c p00 p01 g ∧ f = (M.access rq10).write (Elt F) g p10 Finset.univ
def q4 (M : Memref sig .tc .vmem S4x512x128 .bf16) (c : Dev nD) (p00 p01 p10 p11 : Vec F S1x256x64 .bf16) (f : Buf (Elt F) (M.view.loc (c : Thread nD τ))) : Prop :=
  ∃ g : Buf (Elt F) (M.view.loc (c : Thread nD τ)), q3 M c p00 p01 p10 g ∧ f = (M.access rq11).write (Elt F) g p11 Finset.univ

/-- A reading inside a quarter just written is its payload; -/
theorem read_in (M : Memref sig .tc .vmem S4x512x128 .bf16) {off : Fin 3 → ℕ} {inb : ∀ a, off a + S1x256x64.size a ≤ S4x512x128.size a}
    (f : M.view.ty.Contents (Elt F)) (w : Vec F S1x256x64 .bf16) (x : S4x512x128.Idx) (z : S1x256x64.Idx)
    (h : ∀ a, (x a).val = off a + (z a).val) :
    M.view.read (Elt F) ((M.access (Rect.unit (s := S4x512x128) off S1x256x64.size inb)).write (Elt F) f w Finset.univ) x = w z := by
  have e : x = (Rect.unit (s := S4x512x128) off S1x256x64.size inb).emb z :=
    funext fun a => Fin.ext ((h a).trans (by simp [Rect.emb, Rect.unit]))
  rw [e]
  exact View.read_write_of_mem (v := M.access (Rect.unit (s := S4x512x128) off S1x256x64.size inb)) f w (Finset.mem_univ z)

/-- outside it nothing changed. -/
theorem read_out (M : Memref sig .tc .vmem S4x512x128 .bf16) {off : Fin 3 → ℕ} {inb : ∀ a, off a + S1x256x64.size a ≤ S4x512x128.size a}
    (f : M.view.ty.Contents (Elt F)) (w : Vec F S1x256x64 .bf16) (x : S4x512x128.Idx)
    (h : ∃ a, (x a).val < off a ∨ off a + S1x256x64.size a ≤ (x a).val) :
    M.view.read (Elt F) ((M.access (Rect.unit (s := S4x512x128) off S1x256x64.size inb)).write (Elt F) f w Finset.univ) x = M.view.read (Elt F) f x := by
  rw [View.read_apply, View.read_apply]
  congr 1
  refine View.write_of_not_mem (v := M.access (Rect.unit (s := S4x512x128) off S1x256x64.size inb)) f w Finset.univ ?_
  rw [View.setOn_univ]
  intro hm
  obtain ⟨z, -, hz⟩ := Finset.mem_map.mp hm
  have e : (Rect.unit (s := S4x512x128) off S1x256x64.size inb).emb z = x := M.view.emb.injective hz
  obtain ⟨a, ha⟩ := h
  have e1 : (x a).val = off a + (z a).val := by rw [← e]; simp [Rect.emb, Rect.unit]
  have := (z a).isLt
  have hs : (Rect.unit (s := S4x512x128) off S1x256x64.size inb).shape.size a = S1x256x64.size a := rfl
  omega

/-- The four quarters together. -/
theorem q4_read (p00 p01 p10 p11 : Vec F S1x256x64 .bf16) (f : Buf (Elt F) (M.view.loc (c : Thread nD τ))) (h : q4 M c p00 p01 p10 p11 f) :
    M.view.readAt (Elt F) ra0.toLoadRect f = glue p00 p01 p10 p11 := by
  obtain ⟨g3, ⟨g2, ⟨g1, ⟨g0, rfl⟩, rfl⟩, rfl⟩, rfl⟩ := h
  funext y
  have y0 := (y 0).isLt
  have y1 := (y 1).isLt
  have y2 := (y 2).isLt
  simp at y0 y1 y2
  have x0 : (ra0.emb y 0).val = (y 0).val := by simp [Rect.emb, Rect.unit]
  have x1 : (ra0.emb y 1).val = (y 1).val := by simp [Rect.emb, Rect.unit]
  have x2 : (ra0.emb y 2).val = (y 2).val := by simp [Rect.emb, Rect.unit]
  have g : ∀ (off : Fin 3 → ℕ), off 0 = 0 → (off 1 = if (y 1).val < 256 then 0 else 256) → (off 2 = if (y 2).val < 64 then 0 else 64) →
      ∀ a, (ra0.emb y a).val = off a + (gluePos y a).val := by
    intro off h0 h1 h2 a
    fin_cases a
    · show (ra0.emb y 0).val = off 0 + (y 0).val % 1
      omega
    · show (ra0.emb y 1).val = off 1 + (y 1).val % 256
      rw [x1, h1]; split <;> omega
    · show (ra0.emb y 2).val = off 2 + (y 2).val % 64
      rw [x2, h2]; split <;> omega
  show M.view.read (Elt F) _ (ra0.emb y) = _
  unfold glue
  by_cases h1 : (y 1).val < 256 <;> by_cases h2 : (y 2).val < 64
  · rw [if_pos h1, if_pos h2, read_out M _ _ _ ⟨1, .inl (by rw [x1]; simpa using h1)⟩, read_out M _ _ _ ⟨1, .inl (by rw [x1]; simpa using h1)⟩,
      read_out M _ _ _ ⟨2, .inl (by rw [x2]; simpa using h2)⟩]
    exact read_in M _ _ _ _ (g _ rfl (by simp [h1]) (by simp [h2]))
  · rw [if_pos h1, if_neg h2, read_out M _ _ _ ⟨1, .inl (by rw [x1]; simpa using h1)⟩, read_out M _ _ _ ⟨1, .inl (by rw [x1]; simpa using h1)⟩]
    exact read_in M _ _ _ _ (g _ rfl (by simp [h1]) (by simp [h2]))
  · rw [if_neg h1, if_pos h2, read_out M _ _ _ ⟨2, .inl (by rw [x2]; simpa using h2)⟩]
    exact read_in M _ _ _ _ (g _ rfl (by simp [h1]) (by simp [h2]))
  · rw [if_neg h1, if_neg h2]
    exact read_in M _ _ _ _ (g _ rfl (by simp [h1]) (by simp [h2]))

variable (c)

/-- A dead load and a store of one quarter. -/
theorem step_quarter {α : Type} {Q : α → sProp 𝕄} {off : Fin 3 → ℕ} {inb : ∀ a, off a + S1x256x64.size a ≤ S4x512x128.size a} (h0 : off 0 = 0)
    {hl : M.view.LoadsAt (Rect.unit (s := S4x512x128) off S1x256x64.size inb).toLoadRect} {w : Vec F S1x256x64 .bf16}
    {hx : (M.access (Rect.unit (s := S4x512x128) off S1x256x64.size inb)).Stores Finset.univ}
    {hm : (Finset.univ : Finset (Rect.unit (s := S4x512x128) off S1x256x64.size inb).shape.Idx) = Finset.univ ∨ ∀ a, (Rect.unit (s := S4x512x128) off S1x256x64.size inb).stride a = 1}
    {k : PUnit → Prog (TpuEff nD τ sig (Elt F) Λ₀ .tc) α} {P P' : Buf (Elt F) (M.view.loc (c : Thread nD τ)) → Prop}
    (hP : ∀ f, P f → P' ((M.access (Rect.unit (s := S4x512x128) off S1x256x64.size inb)).write (Elt F) f w Finset.univ)) :
    boxSat c M ra0 P ⊢ iprop((boxSat c M ra0 P' -∗ WP c (k ⟨⟩) Q)
      -∗ WP c (.op (.load M (Rect.unit (s := S4x512x128) off S1x256x64.size inb).toLoadRect hl)
          (fun _ => .op (.store M (Rect.unit (s := S4x512x128) off S1x256x64.size inb) w Finset.univ hx hm) k)) Q) := by
  iintro H Hk
  iapply (step_load_sat c (quarter_sub M off inb h0)) $$ H
  iintro %_ H
  iapply (step_store_sat c P' (quarter_sub M off inb h0) hP) $$ H
  iexact Hk

variable {c}

/-! ## The head outputs -/

/-- The outputs of heads 0 and 1 of batch entry 0 are written to the right-going box. -/
theorem part14 (c : Dev nD)  (Kt : (Σ' (v417 : FVec F S256x256 .f32), FVec F S256 .f32) → sProp 𝕄) :
    iprop(boxSat c arM ra0 (fun _ => True)
        ∗ (boxSat c arM ra0 (q2 arM c (o00 m c) (o01 m c)) -∗ Kt ⟨k0_pay33 (qV m c) (s02 m c) (kMy m c), k0_pay34 (qV m c) (s02 m c) (kMy m c)⟩))
      ⊢ WP c (atBufs (k0_part14 (F := F)) (qV m c) (s01 m c) (s02 m c) (kMy m c) (vMy m c) (k0_pay29 (qV m c) (s00 m c) (kIn m c) (kOwn m c)) (k0_pay30 (qV m c) (s00 m c) (kIn m c) (kOwn m c))) Kt := by
  rw [k0_part14_eq_skeleton]; unfold k0_part14_skel
  simp only [Prog.lift, Prog.bind_op, Prog.bind_ret, Prog.pure_eq_ret]
  iintro ⟨H, Hk⟩
  iapply (step_quarter c (P := (fun _ => True)) (P' := (q1 arM c (o00 m c))) (by rfl) (by exact fun f _ => ⟨f, rfl⟩)) $$ H
  iintro H
  iapply (step_quarter c (P := (q1 arM c (o00 m c))) (P' := (q2 arM c (o00 m c) (o01 m c))) (by rfl) (by exact fun f hf => ⟨f, hf, rfl⟩)) $$ H
  iintro H
  iapply (step_ret c)
  iapply Hk
  iframe

/-- The outputs of heads 2 and 3 of batch entry 0 are written to the left-going box. -/
theorem part15 (c : Dev nD)  (Kt : FVec F S256x256 .f32 → sProp 𝕄) :
    iprop(boxSat c alM ra0 (fun _ => True)
        ∗ (boxSat c alM ra0 (q2 alM c (o02 m c) (o03 m c)) -∗ Kt (k0_pay37 (qV m c) (s10 m c) (kMy m c))))
      ⊢ WP c (atBufs (k0_part15 (F := F)) (qV m c) (s03 m c) (s10 m c) (kMy m c) (vMy m c) (k0_pay33 (qV m c) (s02 m c) (kMy m c)) (k0_pay34 (qV m c) (s02 m c) (kMy m c))) Kt := by
  rw [k0_part15_eq_skeleton]; unfold k0_part15_skel
  simp only [Prog.lift, Prog.bind_op, Prog.bind_ret, Prog.pure_eq_ret]
  iintro ⟨H, Hk⟩
  iapply (step_quarter c (P := (fun _ => True)) (P' := (q1 alM c (o02 m c))) (by rfl) (by exact fun f _ => ⟨f, rfl⟩)) $$ H
  iintro H
  iapply (step_quarter c (P := (q1 alM c (o02 m c))) (P' := (q2 alM c (o02 m c) (o03 m c))) (by rfl) (by exact fun f hf => ⟨f, hf, rfl⟩)) $$ H
  iintro H
  iapply (step_ret c)
  iapply Hk
  iframe

/-- The outputs of heads 0 and 1 of batch entry 1 complete the right-going box. -/
theorem part16 (c : Dev nD)  (Kt : (Σ' (v500 : FVec F S256x256 .f32), FVec F S256x256 .f32) → sProp 𝕄) :
    iprop(boxSat c arM ra0 (q2 arM c (o00 m c) (o01 m c))
        ∗ (boxSat c arM ra0 (q4 arM c (o00 m c) (o01 m c) (o10 m c) (o11 m c)) -∗ Kt ⟨k0_pay40 (qV m c) (s12 m c) (kMy m c), k0_pay41 (qV m c) (s12 m c) (kMy m c)⟩))
      ⊢ WP c (atBufs (k0_part16 (F := F)) (qV m c) (s11 m c) (s12 m c) (kMy m c) (vMy m c) (k0_pay37 (qV m c) (s10 m c) (kMy m c))) Kt := by
  rw [k0_part16_eq_skeleton]; unfold k0_part16_skel
  simp only [Prog.lift, Prog.bind_op, Prog.bind_ret, Prog.pure_eq_ret]
  iintro ⟨H, Hk⟩
  iapply (step_quarter c (P := (q2 arM c (o00 m c) (o01 m c))) (P' := (q3 arM c (o00 m c) (o01 m c) (o10 m c))) (by rfl) (by exact fun f hf => ⟨f, hf, rfl⟩)) $$ H
  iintro H
  iapply (step_quarter c (P := (q3 arM c (o00 m c) (o01 m c) (o10 m c))) (P' := (q4 arM c (o00 m c) (o01 m c) (o10 m c) (o11 m c))) (by rfl) (by exact fun f hf => ⟨f, hf, rfl⟩)) $$ H
  iintro H
  iapply (step_ret c)
  iapply Hk
  iframe

/-- The outputs of heads 2 and 3 of batch entry 1 complete the left-going box. -/
theorem part17 (c : Dev nD) (v25 : BitVec 32) (Kt : PUnit → sProp 𝕄) :
    iprop(boxSat c alM ra0 (q2 alM c (o02 m c) (o03 m c))
        ∗ (boxSat c alM ra0 (q4 alM c (o02 m c) (o03 m c) (o12 m c) (o13 m c)) -∗ Kt ⟨⟩))
      ⊢ WP c (atBufs (k0_part17 (F := F)) v25 (qV m c) (s13 m c) (kMy m c) (vMy m c) (k0_pay40 (qV m c) (s12 m c) (kMy m c)) (k0_pay41 (qV m c) (s12 m c) (kMy m c))) Kt := by
  rw [k0_part17_eq_skeleton]; unfold k0_part17_skel
  simp only [Prog.lift, Prog.bind_op, Prog.bind_ret, Prog.pure_eq_ret]
  iintro ⟨H, Hk⟩
  iapply (step_quarter c (P := (q2 alM c (o02 m c) (o03 m c))) (P' := (q3 alM c (o02 m c) (o03 m c) (o12 m c))) (by rfl) (by exact fun f hf => ⟨f, hf, rfl⟩)) $$ H
  iintro H
  iapply (step_quarter c (P := (q3 alM c (o02 m c) (o03 m c) (o12 m c))) (P' := (q4 alM c (o02 m c) (o03 m c) (o12 m c) (o13 m c))) (by rfl) (by exact fun f hf => ⟨f, hf, rfl⟩)) $$ H
  iintro H
  iapply (step_ret c)
  iapply Hk
  iframe

/-- The finished boxes. -/
theorem boxR_done (c : Dev nD) : boxSat c arM ra0 (q4 arM c (o00 m c) (o01 m c) (o10 m c) (o11 m c)) ⊢ (box c arM ra0 fullShare (agR m 0 c) : sProp 𝕄) :=
  box_of_sat c arM ra0 _ _ (fun f hf => q4_read _ _ _ _ f hf)
/-- With its four pieces written, the left-going box holds the device's head outputs. -/
theorem boxL_done (c : Dev nD) : boxSat c alM ra0 (q4 alM c (o02 m c) (o03 m c) (o12 m c) (o13 m c)) ⊢ (box c alM ra0 fullShare (agL m 0 c) : sProp 𝕄) :=
  box_of_sat c alM ra0 _ _ (fun f hf => q4_read _ _ _ _ f hf)

/-! ## The all-gather rings -/

/-- The staged output weight. -/
abbrev inC (c : Dev nD) : sProp 𝕄 := stgAt c cc0_stg7_0 (woC m c)

/-- The device's own head outputs are sent both ways, a half of each box being kept to read. -/
theorem part18 (c : Dev nD) (v2 v14 : BitVec 32) (Kt : (Σ' (v560 : FVec F S512x128 .bf16) (v565 : BitVec 32) (v570 : BitVec 1), BitVec 32) → sProp 𝕄) :
    iprop(records m K ∗ xtok c 6 ∗ xtok c 7 ∗ box c arM ra0 fullShare (agR m 0 c) ∗ box c alM ra0 fullShare (agL m 0 c) ∗ boxAny (nxt c) arM ra1 ∗ boxAny (prv c) alM ra1 ∗ ow c (owed c 6)
        ∗ (∀ v565, ∀ v570, ∀ v571, cS c 6 ∗ cS c 7 ∗ box c arM ra0 hR (agR m 0 c) ∗ box c alM ra0 hR (agL m 0 c) ∗ ow c (owed c 4) -∗ Kt ⟨k0_pay44 (agR m 0 c), v565, v570, v571⟩))
      ⊢ WP c (atBufs (k0_part18 (F := F)) c v2 v14) Kt := by
  rw [k0_part18_eq_skeleton]; unfold k0_part18_skel
  simp only [Prog.lift, Prog.bind_op, Prog.bind_ret, Prog.pure_eq_ret]
  iintro ⟨#HR, Hx6, Hx7, H14, H15, Hn, Hp, Ho, Hk⟩
  ihave H14 := (box_halves c _ _ _) $$ H14
  icases H14 with ⟨H14, H14r⟩
  ihave H15 := (box_halves c _ _ _) $$ H15
  icases H15 with ⟨H15, H15r⟩
  iapply (do_send m K c _ (nxt c) 6 (dev9_eq c) (by rfl) (by rfl) (by rfl) 5 (by decide) hL (agR m 0 c) (by rfl) (by exact .rfl)
    (by exact to_nxt arM ra1 (agR m 0) c)) $$ HR Hx6 H14 Hn Ho
  iintro ⟨Hc6, Ho⟩
  iapply (do_send m K c _ (prv c) 7 (dev10_eq c) (by rfl) (by rfl) (by rfl) 4 (by decide) hL (agL m 0 c) (by rfl) (by exact .rfl)
    (by exact to_prv alM ra1 (agL m 0) c)) $$ HR Hx7 H15 Hp Ho
  iintro ⟨Hc7, Ho⟩
  iapply (step_load c) $$ H14r; iintro H14r
  iapply (step_ret c)
  iapply Hk
  iframe

/-- The device's own head outputs are multiplied by their rows of the output weights: the first sum. -/
theorem part19 (c : Dev nD) (v2 v565 : BitVec 32) (v570 : BitVec 1) (v571 : BitVec 32) (Kt : FVec F S512x1024 .f32 → sProp 𝕄) :
    iprop(inC m c ∗ box c alM ra0 hR (agL m 0 c)
        ∗ (inC m c ∗ box c alM ra0 hR (agL m 0 c) -∗ Kt (acc1 m c)))
      ⊢ WP c (atBufs (k0_part19 (F := F)) c v2 (k0_pay44 (agR m 0 c)) v565 v570 v571) Kt := by
  rw [k0_part19_eq_skeleton]; unfold k0_part19_skel
  simp only [Prog.lift, Prog.bind_op, Prog.bind_ret, Prog.pure_eq_ret]
  iintro ⟨Hw, H15, Hk⟩
  iapply (step_ld c (M := Memref.whole cc0_stg7_0) (woC m c) (Y := woR0 m c) rfl) $$ Hw; iintro Hw
  iapply (step_load c) $$ H15; iintro H15
  iapply (step_ld c (M := Memref.whole cc0_stg7_0) (woC m c) (Y := woL0 m c) rfl) $$ Hw; iintro Hw
  iapply (step_ret c)
  unfold acc1
  iapply Hk
  iframe

/-- The first right-going outputs are sent and received, and the first left-going ones sent. -/
theorem part20 (c : Dev nD) (v14 v25 : BitVec 32) (Kt : PUnit → sProp 𝕄) :
    iprop(records m K ∗ pS c 6 0 ∗ cS c 6 ∗ pR c 6 0 ∗ cR c 6 ∗ pS c 7 0 ∗ cS c 7 ∗ ow c (owed c 4)
        ∗ (pS c 6 1 ∗ pR c 6 1 ∗ pS c 7 1 ∗ box c arM ra0 hL (agR m 0 c) ∗ box c arM ra1 fullShare (agR m 1 c) ∗ box c alM ra0 hL (agL m 0 c) ∗ ow c (owed c 4) -∗ Kt ⟨⟩))
      ⊢ WP c (atBufs (k0_part20 (F := F)) v14 v25) Kt := by
  rw [k0_part20_eq_skeleton]; unfold k0_part20_skel
  simp only [Prog.lift, Prog.bind_op, Prog.bind_ret, Prog.pure_eq_ret]
  iintro ⟨#HR, Hp6, Hc6, Hq6, Hd6, Hp7, Hc7, Ho, Hk⟩
  iapply (do_wait m K c (sIx 6) 4 (by decide) (by decide) (by rfl) (by rfl)
    (P := box c arM ra0 hL (agR m 0 c)) (by exact .rfl)) $$ HR Hc6 Hp6 Ho
  iintro ⟨H14, Hp6, Ho⟩
  iapply (do_wait m K c (rIx 6) 4 (by decide) (by decide) (by rfl) (by rfl)
    (P := box c arM ra1 fullShare (agR m 1 c)) (by exact .rfl)) $$ HR Hd6 Hq6 Ho
  iintro ⟨H14b, Hq6, Ho⟩
  iapply (do_wait m K c (sIx 7) 4 (by decide) (by decide) (by rfl) (by rfl)
    (P := box c alM ra0 hL (agL m 0 c)) (by exact .rfl)) $$ HR Hc7 Hp7 Ho
  iintro ⟨H15, Hp7, Ho⟩
  iapply (step_ret c)
  iapply Hk
  iframe

/-- The first left-going outputs are received, and the received outputs sent on both ways. -/
theorem part21 (c : Dev nD) (v2 v14 v25 : BitVec 32) (Kt : (Σ' (v648 : FVec F S512x128 .bf16) (v650 : BitVec 32) (c4 : BitVec 32), BitVec 32) → sProp 𝕄) :
    iprop(records m K ∗ pR c 7 0 ∗ cR c 7 ∗ xtok c 8 ∗ xtok c 9 ∗ box c arM ra1 fullShare (agR m 1 c) ∗ boxAny (nxt c) arM ra2 ∗ boxAny (prv c) alM ra2 ∗ ow c (owed c 4)
        ∗ (∀ v650, pR c 7 1 ∗ cS c 8 ∗ cS c 9 ∗ box c arM ra1 hR (agR m 1 c) ∗ box c alM ra1 hR (agL m 1 c) ∗ ow c (owed c 2) -∗ Kt ⟨k0_pay46 (agR m 1 c), v650, 4#32, 0#32⟩))
      ⊢ WP c (atBufs (k0_part21 (F := F)) c v2 v14 v25) Kt := by
  rw [k0_part21_eq_skeleton]; unfold k0_part21_skel
  simp only [Prog.lift, Prog.bind_op, Prog.bind_ret, Prog.pure_eq_ret]
  iintro ⟨#HR, Hq7, Hd7, Hx8, Hx9, H14, Hn, Hp, Ho, Hk⟩
  iapply (do_wait m K c (rIx 7) 4 (by decide) (by decide) (by rfl) (by rfl)
    (P := box c alM ra1 fullShare (agL m 1 c)) (by exact .rfl)) $$ HR Hd7 Hq7 Ho
  iintro ⟨H15, Hq7, Ho⟩
  ihave H14 := (box_halves c _ _ _) $$ H14
  icases H14 with ⟨H14, H14r⟩
  ihave H15 := (box_halves c _ _ _) $$ H15
  icases H15 with ⟨H15, H15r⟩
  iapply (do_send m K c _ (nxt c) 8 (dev11_eq c) (by rfl) (by rfl) (by rfl) 3 (by decide) hL (agR m 1 c) (by rfl) (by exact .rfl)
    (by exact to_nxt arM ra2 (agR m 1) c)) $$ HR Hx8 H14 Hn Ho
  iintro ⟨Hc8, Ho⟩
  iapply (do_send m K c _ (prv c) 9 (dev12_eq c) (by rfl) (by rfl) (by rfl) 2 (by decide) hL (agL m 1 c) (by rfl) (by exact .rfl)
    (by exact to_prv alM ra2 (agL m 1) c)) $$ HR Hx9 H15 Hp Ho
  iintro ⟨Hc9, Ho⟩
  iapply (step_load c) $$ H14r; iintro H14r
  iapply (step_ret c)
  iapply Hk
  iframe

/-- The first received outputs times their rows of the output weights are added: the second sum. -/
theorem part22 (c : Dev nD) (v2 v650 c4 c0 : BitVec 32) (Kt : FVec F S512x1024 .f32 → sProp 𝕄) :
    iprop(inC m c ∗ box c alM ra1 hR (agL m 1 c)
        ∗ (inC m c ∗ box c alM ra1 hR (agL m 1 c) -∗ Kt (acc2 m c)))
      ⊢ WP c (atBufs (k0_part22 (F := F)) c v2 (acc1 m c) (k0_pay46 (agR m 1 c)) v650 c4 c0) Kt := by
  rw [k0_part22_eq_skeleton]; unfold k0_part22_skel
  simp only [Prog.lift, Prog.bind_op, Prog.bind_ret, Prog.pure_eq_ret]
  iintro ⟨Hw, H15, Hk⟩
  iapply (step_ld c (M := Memref.whole cc0_stg7_0) (woC m c) (Y := woR1 m c) rfl) $$ Hw; iintro Hw
  iapply (step_load c) $$ H15; iintro H15
  iapply (step_ld c (M := Memref.whole cc0_stg7_0) (woC m c) (Y := woL1 m c) rfl) $$ Hw; iintro Hw
  iapply (step_ret c)
  unfold acc2
  iapply Hk
  iframe

/-- The second right-going outputs are sent and received, and the second left-going ones sent. -/
theorem part23 (c : Dev nD) (v25 : BitVec 32) (Kt : PUnit → sProp 𝕄) :
    iprop(records m K ∗ pS c 8 0 ∗ cS c 8 ∗ pR c 8 0 ∗ cR c 8 ∗ pS c 9 0 ∗ cS c 9 ∗ ow c (owed c 2)
        ∗ (pS c 8 1 ∗ pR c 8 1 ∗ pS c 9 1 ∗ box c arM ra1 hL (agR m 1 c) ∗ box c arM ra2 fullShare (agR m 2 c) ∗ box c alM ra1 hL (agL m 1 c) ∗ ow c (owed c 2) -∗ Kt ⟨⟩))
      ⊢ WP c (atBufs (k0_part23 (F := F)) v25) Kt := by
  rw [k0_part23_eq_skeleton]; unfold k0_part23_skel
  simp only [Prog.lift, Prog.bind_op, Prog.bind_ret, Prog.pure_eq_ret]
  iintro ⟨#HR, Hp8, Hc8, Hq8, Hd8, Hp9, Hc9, Ho, Hk⟩
  iapply (do_wait m K c (sIx 8) 2 (by decide) (by decide) (by rfl) (by rfl)
    (P := box c arM ra1 hL (agR m 1 c)) (by exact .rfl)) $$ HR Hc8 Hp8 Ho
  iintro ⟨H14, Hp8, Ho⟩
  iapply (do_wait m K c (rIx 8) 2 (by decide) (by decide) (by rfl) (by rfl)
    (P := box c arM ra2 fullShare (agR m 2 c)) (by exact .rfl)) $$ HR Hd8 Hq8 Ho
  iintro ⟨H14b, Hq8, Ho⟩
  iapply (do_wait m K c (sIx 9) 2 (by decide) (by decide) (by rfl) (by rfl)
    (P := box c alM ra1 hL (agL m 1 c)) (by exact .rfl)) $$ HR Hc9 Hp9 Ho
  iintro ⟨H15, Hp9, Ho⟩
  iapply (step_ret c)
  iapply Hk
  iframe

/-- The second left-going outputs are received, and the right-going ones sent on. -/
theorem part24 (c : Dev nD) (v14 v25 : BitVec 32) (Kt : PUnit → sProp 𝕄) :
    iprop(records m K ∗ pR c 9 0 ∗ cR c 9 ∗ xtok c 10 ∗ box c arM ra2 hL (agR m 2 c) ∗ boxAny (nxt c) arM ra3 ∗ ow c (owed c 2)
        ∗ (pR c 9 1 ∗ cS c 10 ∗ box c alM ra2 fullShare (agL m 2 c) ∗ ow c (owed c 1) -∗ Kt ⟨⟩))
      ⊢ WP c (atBufs (k0_part24 (F := F)) c v14 v25) Kt := by
  rw [k0_part24_eq_skeleton]; unfold k0_part24_skel
  simp only [Prog.lift, Prog.bind_op, Prog.bind_ret, Prog.pure_eq_ret]
  iintro ⟨#HR, Hq9, Hd9, Hx10, H14, Hn, Ho, Hk⟩
  iapply (do_wait m K c (rIx 9) 2 (by decide) (by decide) (by rfl) (by rfl)
    (P := box c alM ra2 fullShare (agL m 2 c)) (by exact .rfl)) $$ HR Hd9 Hq9 Ho
  iintro ⟨H15, Hq9, Ho⟩
  iapply (do_send m K c _ (nxt c) 10 (dev13_eq c) (by rfl) (by rfl) (by rfl) 1 (by decide) hL (agR m 2 c) (by rfl) (by exact .rfl)
    (by exact to_nxt arM ra3 (agR m 2) c)) $$ HR Hx10 H14 Hn Ho
  iintro ⟨Hc10, Ho⟩
  iapply (step_ret c)
  iapply Hk
  iframe

/-- The left-going outputs are sent on, and the right-going outputs multiplied by their rows of the output weights. -/
theorem part25 (c : Dev nD) (v2 : BitVec 32) (Kt : (Σ' (v755 : FVec F S512x1024 .f32) (v757 : FVec F S512x128 .bf16) (v761 : BitVec 32) (v766 : BitVec 1), BitVec 32) → sProp 𝕄) :
    iprop(records m K ∗ xtok c 11 ∗ box c arM ra2 hR (agR m 2 c) ∗ box c alM ra2 fullShare (agL m 2 c) ∗ boxAny (prv c) alM ra3 ∗ inC m c ∗ ow c (owed c 1)
        ∗ (∀ v761, ∀ v766, ∀ v767, cS c 11 ∗ box c arM ra2 hR (agR m 2 c) ∗ box c alM ra2 hR (agL m 2 c) ∗ inC m c ∗ ow c (owed c 0) -∗ Kt ⟨k0_pay48 (agR m 2 c) (woR2 m c), k0_pay49 (agL m 2 c), v761, v766, v767⟩))
      ⊢ WP c (atBufs (k0_part25 (F := F)) c v2) Kt := by
  rw [k0_part25_eq_skeleton]; unfold k0_part25_skel
  simp only [Prog.lift, Prog.bind_op, Prog.bind_ret, Prog.pure_eq_ret]
  iintro ⟨#HR, Hx11, H14, H15, Hp, Hw, Ho, Hk⟩
  ihave H15 := (box_halves c _ _ _) $$ H15
  icases H15 with ⟨H15, H15r⟩
  iapply (do_send m K c _ (prv c) 11 (dev14_eq c) (by rfl) (by rfl) (by rfl) 0 (by decide) hL (agL m 2 c) (by rfl) (by exact .rfl)
    (by exact to_prv alM ra3 (agL m 2) c)) $$ HR Hx11 H15 Hp Ho
  iintro ⟨Hc11, Ho⟩
  iapply (step_load c) $$ H14; iintro H14
  iapply (step_ld c (M := Memref.whole cc0_stg7_0) (woC m c) (Y := woR2 m c) rfl) $$ Hw; iintro Hw
  iapply (step_load c) $$ H15r; iintro H15r
  iapply (step_ret c)
  iapply Hk
  iframe

/-- The third sum is formed, and the last right-going outputs are sent and received. -/
theorem part26 (c : Dev nD) (v25 v761 : BitVec 32) (v766 : BitVec 1) (v767 : BitVec 32) (Kt : FVec F S512x1024 .f32 → sProp 𝕄) :
    iprop(records m K ∗ inC m c ∗ pS c 10 0 ∗ cS c 10 ∗ pR c 10 0 ∗ cR c 10 ∗ ow c (owed c 0)
        ∗ (inC m c ∗ pS c 10 1 ∗ pR c 10 1 ∗ box c arM ra2 hL (agR m 2 c) ∗ box c arM ra3 fullShare (agR m 3 c) ∗ ow c (owed c 0) -∗ Kt (acc3 m c)))
      ⊢ WP c (atBufs (k0_part26 (F := F)) c v25 (acc2 m c) (k0_pay48 (agR m 2 c) (woR2 m c)) (k0_pay49 (agL m 2 c)) v761 v766 v767) Kt := by
  rw [k0_part26_eq_skeleton]; unfold k0_part26_skel
  simp only [Prog.lift, Prog.bind_op, Prog.bind_ret, Prog.pure_eq_ret]
  iintro ⟨#HR, Hw, Hp10, Hc10, Hq10, Hd10, Ho, Hk⟩
  iapply (step_ld c (M := Memref.whole cc0_stg7_0) (woC m c) (Y := woL2 m c) rfl) $$ Hw; iintro Hw
  iapply (do_wait m K c (sIx 10) 0 (by decide) (by decide) (by rfl) (by rfl)
    (P := box c arM ra2 hL (agR m 2 c)) (by exact .rfl)) $$ HR Hc10 Hp10 Ho
  iintro ⟨H14, Hp10, Ho⟩
  iapply (do_wait m K c (rIx 10) 0 (by decide) (by decide) (by rfl) (by rfl)
    (P := box c arM ra3 fullShare (agR m 3 c)) (by exact .rfl)) $$ HR Hd10 Hq10 Ho
  iintro ⟨H14b, Hq10, Ho⟩
  iapply (step_ret c)
  unfold acc3
  iapply Hk
  iframe

/-- The last left-going outputs are sent and received, and the last right-going ones loaded. -/
theorem part27 (c : Dev nD) (v2 v14 : BitVec 32) (Kt : FVec F S512x128 .bf16 → sProp 𝕄) :
    iprop(records m K ∗ pS c 11 0 ∗ cS c 11 ∗ pR c 11 0 ∗ cR c 11 ∗ box c arM ra3 fullShare (agR m 3 c) ∗ ow c (owed c 0)
        ∗ (pS c 11 1 ∗ pR c 11 1 ∗ box c alM ra2 hL (agL m 2 c) ∗ box c alM ra3 fullShare (agL m 3 c) ∗ box c arM ra3 fullShare (agR m 3 c) ∗ ow c (owed c 0) -∗ Kt (k0_pay51 (agR m 3 c))))
      ⊢ WP c (atBufs (k0_part27 (F := F)) v2 v14) Kt := by
  rw [k0_part27_eq_skeleton]; unfold k0_part27_skel
  simp only [Prog.lift, Prog.bind_op, Prog.bind_ret, Prog.pure_eq_ret]
  iintro ⟨#HR, Hp11, Hc11, Hq11, Hd11, H14, Ho, Hk⟩
  iapply (do_wait m K c (sIx 11) 0 (by decide) (by decide) (by rfl) (by rfl)
    (P := box c alM ra2 hL (agL m 2 c)) (by exact .rfl)) $$ HR Hc11 Hp11 Ho
  iintro ⟨H15, Hp11, Ho⟩
  iapply (do_wait m K c (rIx 11) 0 (by decide) (by decide) (by rfl) (by rfl)
    (P := box c alM ra3 fullShare (agL m 3 c)) (by exact .rfl)) $$ HR Hd11 Hq11 Ho
  iintro ⟨H15b, Hq11, Ho⟩
  iapply (step_load c) $$ H14; iintro H14
  iapply (step_ret c)
  iapply Hk
  iframe

end Cert.KernelIdeal.Ring
-- ==== Proof.RingI.BodyD.lean ====
/-
The whole body on one device.
-/
module

public import proofs.«01_k».proof.Proof.RingI.BodyC

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 25 → ℕ)

/-! ## The transfers' cells listed -/

/-- A conjunction over the transfer cells, written out transfer by transfer. -/
theorem chain24 (Φ : Fin 24 → sProp 𝕄) : bigSep Finset.univ Φ = iprop(Φ (sIx 0) ∗ Φ (rIx 0) ∗ Φ (sIx 1) ∗ Φ (rIx 1) ∗ Φ (sIx 2) ∗ Φ (rIx 2) ∗ Φ (sIx 3) ∗ Φ (rIx 3) ∗ Φ (sIx 4) ∗ Φ (rIx 4) ∗ Φ (sIx 5) ∗ Φ (rIx 5) ∗ Φ (sIx 6) ∗ Φ (rIx 6) ∗ Φ (sIx 7) ∗ Φ (rIx 7) ∗ Φ (sIx 8) ∗ Φ (rIx 8) ∗ Φ (sIx 9) ∗ Φ (rIx 9) ∗ Φ (sIx 10) ∗ Φ (rIx 10) ∗ Φ (sIx 11) ∗ Φ (rIx 11)) := by
  rw [bigSep_univ_eq_bigSepL [sIx 0, rIx 0, sIx 1, rIx 1, sIx 2, rIx 2, sIx 3, rIx 3, sIx 4, rIx 4, sIx 5, rIx 5, sIx 6, rIx 6, sIx 7, rIx 7, sIx 8, rIx 8, sIx 9, rIx 9, sIx 10, rIx 10, sIx 11, rIx 11] (by decide) (by decide)]
  simp only [bigSepL_cons_cons, bigSepL_singleton]; rfl

/-- A conjunction over the transfers, written out. -/
theorem chain12 (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [bigSep_univ_eq_bigSepL [0, 1, 2, 3, 4, 5, 6, 7, 8, 9, 10, 11] (by decide) (by decide)]
  simp only [bigSepL_cons_cons, bigSepL_singleton]; rfl

/-- Every transfer cell of a device closes after its one round. -/
theorem close_all (c : Dev nD) :
    iprop(records m K ∗ bigSep Finset.univ (fun k : Fin 24 => (atPos ER (xCell c k) 1 ∅ 0 : sProp 𝕄)))
      ⊢ (iprop(|={Set.univ}=> bigSep Finset.univ (fun k : Fin 24 => (semVal (xCell c k) 0 : sProp 𝕄))) : sProp 𝕄) := by
  refine BIBase.Entails.trans ?_ (bigSep_fupd Finset.univ _)
  refine bigSep_with_persistent fun k _ => ?_
  iintro ⟨HR, Hat⟩
  iapply (Rounds.cell_close ER (ringRd m) (Set.mem_univ (K (c, k.castSucc))) (fun h => h) (R := 0 + 1) (duties_later m (xCell c k)))
  isplitl [HR]; · iapply (inv_x m K c k); iexact HR
  iexact Hat

/-- A part, then the rest. -/
theorem step_bind {α β : Type} {Q : β → sProp 𝕄} (c : Dev nD) {p : Prog (TpuEff nD τ sig (Elt F) Λ₀ .tc) α}
    {k : α → Prog (TpuEff nD τ sig (Elt F) Λ₀ .tc) β} : WP c p (fun a => WP c (k a) Q) ⊢ WP c (p >>= k) Q :=
  Entails.of_eq (wp_bind _ _ _ _ _ _).symm

/-- The end of a program, after a change of ghost state. -/
theorem step_fin {α : Type} {Q : α → sProp 𝕄} (c : Dev nD) (a : α) : iprop(|={Set.univ}=> Q a) ⊢ WP (F := F) c (.ret a) Q := by
  unfold WP; rw [wp_ret]

/-! ## The body -/

/-- The buffers a device works in. -/
def slots (c : Dev nD) : sProp 𝕄 :=
  iprop(kvAny (F := F) c ∗ boxAny c ksM rk0 ∗ boxAny c ksM rk1 ∗ boxAny c ksM rk2 ∗ boxAny c vsM rk0 ∗ boxAny c vsM rk1 ∗ boxAny c vsM rk2
    ∗ boxAny c arM ra0 ∗ boxAny c alM ra0 ∗ handK c ∗ handV c)

/-- What the device waits and pays with. -/
def funds (c : Dev nD) : sProp 𝕄 :=
  iprop(dutyTok ER (barCell (prv c)) 0 true ∗ dutyTok ER (barCell (nxt c)) 0 false ∗ cred (tallyAt (barCell c) () 2) ∗ atPos ER (barCell c) 0 ∅ 0
    ∗ bigSep Finset.univ (fun i : Fin 12 => (xtok c i : sProp 𝕄)) ∗ bigSep Finset.univ (fun i : Fin 12 => (cR c i : sProp 𝕄))
    ∗ bigSep Finset.univ (fun k : Fin 24 => (atPos ER (xCell c k) 0 ∅ 0 : sProp 𝕄)))

/-- The counters at rest. -/
def rested (c : Dev nD) : sProp 𝕄 :=
  iprop(semVal (barCell c) 0 ∗ bigSep Finset.univ (fun k : Fin 24 => (semVal (xCell c k) 0 : sProp 𝕄)))

/-- The staged blocks. -/
def ins (c : Dev nD) : sProp 𝕄 := iprop(inA m c ∗ inB m c ∗ inC m c)

/-- The zero offset of three axes. -/
theorem hz3 : (![0, 0, 0] : Fin 3 → Nat) = fun _ => 0 := funext fun a => by fin_cases a <;> rfl

set_option maxHeartbeats 8000000 in
set_option pp.maxSteps 400 in
set_option maxRecDepth 20000 in
/-- The whole body: from its cells, slots and staged inputs, a device ends with its output stored, its cells used up, its slots and inputs back, and owing nothing. -/
theorem sound_body (c : Dev nD) (Kt : PUnit → sProp 𝕄) :
    iprop(records m K ∗ funds c ∗ slots c ∗ ins m c ∗ (∃ f : (cc0_stg8_0 : Ref sig .tc).ty.Contents (Elt F), stgAt c cc0_stg8_0 f) ∗ ow c (O₀ c)
        ∗ (rested c ∗ slots c ∗ ins m c ∗ stgAt c cc0_stg8_0 (outV m c) ∗ ow c 0 -∗ Kt ⟨⟩))
      ⊢ WP c (atBufs (cc0_body (F := F))) Kt := by
  rw [cc0_body_eq_skeleton]
  unfold cc0_body_skel
  rw [k0_part28_eq_skeleton]
  unfold k0_part28_skel
  simp only [Prog.lift, Prog.bind_op, Prog.bind_ret, Prog.pure_eq_ret, Prog.bind_assoc]
  unfold funds slots ins
  iintro ⟨#HR, ⟨Htp, Htn, Hcb, Hab, HX, HD, HP⟩, ⟨Hkv, K0, K1, K2, V0, V1, V2, A0, L0, HhK, HhV⟩, ⟨HA, HB, HC⟩, ⟨%fo, Hout⟩, Ho, Hk⟩
  ihave HX := (Entails.of_eq (chain12 _)) $$ HX
  icases HX with ⟨X0, X1, X2, X3, X4, X5, X6, X7, X8, X9, X10, X11⟩
  ihave HD := (Entails.of_eq (chain12 _)) $$ HD
  icases HD with ⟨D0, D1, D2, D3, D4, D5, D6, D7, D8, D9, D10, D11⟩
  ihave HP := (Entails.of_eq (chain24 _)) $$ HP
  icases HP with ⟨S0, R0, S1, R1, S2, R2, S3, R3, S4, R4, S5, R5, S6, R6, S7, R7, S8, R8, S9, R9, S10, R10, S11, R11⟩
  iapply (step_bind c)
  iapply (part1 m K c)
  iframe
  isplitr; · iexact HR
  iintro %_ %_ %_ ⟨NV, NK, Hab, Ho⟩
  dsimp only
  unfold handV handK
  icases NV with ⟨NV0, NV1, NV2, NL1, NL2, NL3⟩
  icases NK with ⟨NK0, NK1, NK2, NA1, NA2, NA3⟩
  iapply (step_bind c)
  iapply (part2 m c)
  iframe
  iintro %_ ⟨HA, Hkv⟩
  dsimp only
  iapply (step_bind c)
  iapply (part3 m c)
  iframe
  iintro ⟨Hkv, K0, V0⟩
  try dsimp only
  iapply (step_bind c)
  iapply (part4 m K c)
  iframe
  isplitr; · iexact HR
  iintro ⟨C0, C1, HB, Ho⟩
  try dsimp only
  iapply (step_bind c)
  iapply (part5 m K c)
  iframe
  isplitr; · iexact HR
  iintro %_ ⟨S0, R0, S1, K0, Q0, V0, Ho⟩
  dsimp only
  iapply (step_bind c)
  iapply (part6 m K c)
  iframe
  isplitr; · iexact HR
  iintro %_ %_ ⟨R1, Q0, U0, Hkv, K1, Ho⟩
  dsimp only
  iapply (step_bind c)
  iapply (part7 m K c)
  iframe
  isplitr; · iexact HR
  iintro %_ ⟨Hkv, V1, C2, Ho⟩
  dsimp only
  iapply (step_bind c)
  iapply (part8 m K c)
  iframe
  isplitr; · iexact HR
  iintro ⟨C3, S2, K1, Ho⟩
  try dsimp only
  iapply (step_bind c)
  iapply (part9 m K c)
  iframe
  isplitr; · iexact HR
  iintro ⟨R2, S3, R3, Q1, V1, U1, Ho⟩
  try dsimp only
  iapply (step_bind c)
  iapply (part10 m c)
  iframe
  iintro %_ ⟨Q1, Hkv, K2, U1⟩
  dsimp only
  iapply (step_bind c)
  iapply (part11 m K c)
  iframe
  isplitr; · iexact HR
  iintro ⟨Hkv, C4, C5, Ho⟩
  try dsimp only
  iapply (step_bind c)
  iapply (part12 m K c)
  iframe
  isplitr; · iexact HR
  iintro ⟨S4, R4, S5, K2, Q2, V2, Ho⟩
  try dsimp only
  iapply (step_bind c)
  iapply (part13 m K c)
  iframe
  isplitr; · iexact HR
  iintro ⟨R5, Q2, U2, Hkv, Ho⟩
  try dsimp only
  ihave A0 := (boxSat_of_any c arM ra0) $$ A0
  ihave L0 := (boxSat_of_any c alM ra0) $$ L0
  iapply (step_bind c)
  iapply (part14 m c)
  iframe
  iintro A0
  try dsimp only
  iapply (step_bind c)
  iapply (part15 m c)
  iframe
  iintro L0
  try dsimp only
  iapply (step_bind c)
  iapply (part16 m c)
  iframe
  iintro A0
  try dsimp only
  iapply (step_bind c)
  iapply (part17 m c)
  iframe
  iintro L0
  try dsimp only
  ihave A0 := (boxR_done m c) $$ A0
  ihave L0 := (boxL_done m c) $$ L0
  iapply (step_bind c)
  iapply (part18 m K c)
  iframe
  isplitr; · iexact HR
  iintro %_ %_ %_ ⟨C6, C7, A0r, L0r, Ho⟩
  dsimp only
  iapply (step_bind c)
  iapply (part19 m c)
  iframe
  iintro ⟨HC, L0r⟩
  try dsimp only
  iapply (step_bind c)
  iapply (part20 m K c)
  iframe
  isplitr; · iexact HR
  iintro ⟨S6, R6, S7, A0, A1, L0, Ho⟩
  try dsimp only
  iapply (step_bind c)
  iapply (part21 m K c)
  iframe
  isplitr; · iexact HR
  iintro %_ ⟨R7, C8, C9, A1r, L1r, Ho⟩
  dsimp only
  iapply (step_bind c)
  iapply (part22 m c)
  iframe
  iintro ⟨HC, L1r⟩
  try dsimp only
  iapply (step_bind c)
  iapply (part23 m K c)
  iframe
  isplitr; · iexact HR
  iintro ⟨S8, R8, S9, A1, A2, L1, Ho⟩
  try dsimp only
  ihave A2 := (box_halves c _ _ _) $$ A2
  icases A2 with ⟨A2, A2r⟩
  iapply (step_bind c)
  iapply (part24 m K c)
  iframe
  isplitr; · iexact HR
  iintro ⟨R9, C10, L2, Ho⟩
  try dsimp only
  iapply (step_bind c)
  iapply (part25 m K c)
  iframe
  isplitr; · iexact HR
  iintro %_ %_ %_ ⟨C11, A2r, L2r, HC, Ho⟩
  dsimp only
  iapply (step_bind c)
  iapply (part26 m K c)
  iframe
  isplitr; · iexact HR
  iintro ⟨HC, S10, R10, A2, A3, Ho⟩
  try dsimp only
  iapply (step_bind c)
  iapply (part27 m K c)
  iframe
  isplitr; · iexact HR
  iintro ⟨S11, R11, L2, L3, A3, Ho⟩
  try dsimp only
  iapply (step_ld c (M := Memref.whole cc0_stg7_0) (woC m c) (Y := woR3 m c) rfl) $$ HC; iintro HC
  iapply (step_load c) $$ L3; iintro L3
  iapply (step_ld c (M := Memref.whole cc0_stg7_0) (woC m c) (Y := woL3 m c) rfl) $$ HC; iintro HC
  iapply (step_ld c (M := Memref.whole cc0_stg8_0) _ rfl) $$ Hout; iintro Hout
  iapply (step_st c (M := Memref.whole cc0_stg8_0)) $$ Hout; iintro Hout
  ihave A0 := (box_join c arM ra0 _ _) $$ [A0 A0r]
  · isplitl [A0] <;> iassumption
  ihave A1 := (box_join c arM ra1 _ _) $$ [A1 A1r]
  · isplitl [A1] <;> iassumption
  ihave A2 := (box_join c arM ra2 _ _) $$ [A2 A2r]
  · isplitl [A2] <;> iassumption
  ihave L0 := (box_join c alM ra0 _ _) $$ [L0 L0r]
  · isplitl [L0] <;> iassumption
  ihave L1 := (box_join c alM ra1 _ _) $$ [L1 L1r]
  · isplitl [L1] <;> iassumption
  ihave L2 := (box_join c alM ra2 _ _) $$ [L2 L2r]
  · isplitl [L2] <;> iassumption
  ihave K0 := (box_any c ksM rk0 _) $$ K0
  ihave K1 := (box_any c ksM rk1 _) $$ K1
  ihave K2 := (box_any c ksM rk2 _) $$ K2
  ihave Q0 := (box_any c krM rk0 _) $$ Q0
  ihave Q1 := (box_any c krM rk1 _) $$ Q1
  ihave Q2 := (box_any c krM rk2 _) $$ Q2
  ihave V0 := (box_any c vsM rk0 _) $$ V0
  ihave V1 := (box_any c vsM rk1 _) $$ V1
  ihave V2 := (box_any c vsM rk2 _) $$ V2
  ihave U0 := (box_any c vrM rk0 _) $$ U0
  ihave U1 := (box_any c vrM rk1 _) $$ U1
  ihave U2 := (box_any c vrM rk2 _) $$ U2
  ihave A3 := (box_any c arM ra3 _) $$ A3
  ihave L3 := (box_any c alM ra3 _) $$ L3
  iapply (step_fin c)
  ihave HP := (Entails.of_eq (chain24 (fun k => (atPos ER (xCell c k) 1 ∅ 0 : sProp 𝕄))).symm) $$ [S0 R0 S1 R1 S2 R2 S3 R3 S4 R4 S5 R5 S6 R6 S7 R7 S8 R8 S9 R9 S10 R10 S11 R11]
  · iframe
  imod (close_all m K c) $$ [HP] with HP
  · isplitr; · iexact HR
    iexact HP
  imod (Rounds.cell_close ER (ringRd m) (Set.mem_univ (K (c, Fin.last 24))) (fun h => h) (R := 0 + 1) (duties_later m (barCell c))) $$ [Hab] with Hab
  · isplitr; · iapply (inv_bar m K c); iexact HR
    iexact Hab
  imodintro
  iapply Hk
  unfold rested kvHeld kvAny
  icases Hkv with ⟨%fk, -, Hkv⟩
  isplitl [Hab HP]; · iframe
  isplitl [Hkv K0 K1 K2 V0 V1 V2 A0 L0 Q0 Q1 Q2 A1 A2 A3 U0 U1 U2 L1 L2 L3]
  · isplitl [Hkv]; · iexists fk; iexact Hkv
    iframe
  isplitl [HA HB HC]; · iframe
  isplitl [Hout]
  · ihave Hout := (Entails.of_eq (congrArg (stgAt c cc0_stg8_0) (Memref.write_access_unit_zero_univ (Elt F) cc0_stg8_0 hz3 _ fo _))) $$ Hout
    unfold outV acc4
    iexact Hout
  iexact Ho

end Cert.KernelIdeal.Ring
-- ==== Proof.RingI.LaunchA.lean ====
/-
The launch's resources: buffers cut into slots, counters and tokens dealt round the ring, the launch credit.
-/
module

public import proofs.«01_k».proof.Proof.RingI.BodyD
public import Idealize.ShloMosaic.Lib.Ring

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Buffers and their slots -/

/-- A whole buffer of a device, at some contents. -/
def wholeAny (c : Dev nD) (b : Ref sig .tc) : sProp 𝕄 :=
  iprop(∃ f : Buf (Elt F) ((c : Thread nD τ).loc b), ((c : Thread nD τ).loc b) ↦{fullShare} f)

/-- A slot of a device's buffer, at some contents. -/
def slotAny (c : Dev nD) (b : Ref sig .tc) (r : Rect b.ty.shape) : sProp 𝕄 :=
  iprop(∃ f : Buf (Elt F) ((c : Thread nD τ).loc b), ((c : Thread nD τ).loc b) ↦[((Memref.whole b).access r).set]{fullShare} f)

section Slots
variable {n : ℕ} (c : Dev nD) (b : Ref sig .tc) (r : Fin n → Rect b.ty.shape) (hd : ∀ i j, i ≠ j → Disjoint (r i).set (r j).set)
  (hc : Finset.univ.biUnion (fun i => (r i).set) = Finset.univ)

/-- The places a slot of a whole buffer covers are the slot's own. -/
theorem access_set (b : Ref sig .tc) (r : Rect b.ty.shape) : ((Memref.whole b).access r).set = r.set := View.set_slice_whole b r
/-- A slot held at some contents is held at any. -/
theorem slotAny_intro (c : Dev nD) (b : Ref sig .tc) (r : Rect b.ty.shape) (f : Buf (Elt F) ((c : Thread nD τ).loc b)) :
    (((c : Thread nD τ).loc b) ↦[((Memref.whole b).access r).set]{fullShare} f : sProp 𝕄) ⊢ slotAny c b r := by
  unfold slotAny; iintro H; iexists f; iexact H

include hd in
/-- Disjoint slots cover disjoint places. -/
theorem access_disjoint (i j : Fin n) (h : i ≠ j) : Disjoint ((Memref.whole b).access (r i)).set ((Memref.whole b).access (r j)).set := by
  rw [access_set, access_set]; exact hd i j h
include hc in
/-- Slots that fill the shape fill the buffer. -/
theorem access_cover : Finset.biUnion (β := b.ty.shape.Idx) (Finset.univ : Finset (Fin n)) (fun i : Fin n => ((Memref.whole b).access (r i)).set) = Finset.univ :=
  (congrArg (fun I : Fin n → Finset b.ty.shape.Idx => (Finset.univ : Finset (Fin n)).biUnion I) (funext fun i : Fin n => access_set b (r i))).trans hc

include hd hc in
/-- A buffer at some contents is its slots, each at some contents. -/
theorem cut_slots : wholeAny (F := F) c b ⊢ bigSep Finset.univ (fun i => slotAny (F := F) c b (r i)) := by
  unfold wholeAny
  iintro ⟨%f, H⟩
  ihave H := (Entails.of_eq (Idealize.ShloMosaic.Ring.pointsTo_blocks (ℓ := (c : Thread nD τ).loc b) (fun i => ((Memref.whole b).access (r i)).set)
    (access_disjoint b r hd) (access_cover b r hc) f)) $$ H
  iapply (show (bigSep Finset.univ (fun i => (((c : Thread nD τ).loc b) ↦[((Memref.whole b).access (r i)).set]{fullShare} f : sProp 𝕄)))
    ⊢ bigSep Finset.univ (fun i => slotAny (F := F) c b (r i)) from bigSep_mono fun i _ => slotAny_intro c b (r i) f)
  iexact H

include hd hc in
/-- and the other way round. -/
theorem join_slots (f₀ : Buf (Elt F) ((c : Thread nD τ).loc b)) :
    bigSep Finset.univ (fun i => slotAny (F := F) c b (r i)) ⊢ wholeAny (F := F) c b :=
  Idealize.ShloMosaic.Ring.pointsTo_blocks_join_exists (ℓ := (c : Thread nD τ).loc b) (fun i => ((Memref.whole b).access (r i)).set)
    (access_disjoint b r hd) (access_cover b r hc) f₀

end Slots

/-- Each of three slots is within its buffer. -/
theorem inb3 (i : Fin 3) : ∀ a, (![i.val, 0, 0] : Fin 3 → Nat) a + S1x512x256.size a ≤ S3x512x256.size a := by revert i; decide
/-- Each of four slots is within its buffer. -/
theorem inb4 (i : Fin 4) : ∀ a, (![i.val, 0, 0] : Fin 3 → Nat) a + S1x512x128.size a ≤ S4x512x128.size a := by revert i; decide
/-- The three slots of a key or value buffer, the four of a gather buffer. -/
def slot3 (i : Fin 3) : Rect S3x512x256 := Rect.unit (s := S3x512x256) ![i.val, 0, 0] S1x512x256.size (inb3 i)
def slot4 (i : Fin 4) : Rect S4x512x128 := Rect.unit (s := S4x512x128) ![i.val, 0, 0] S1x512x128.size (inb4 i)

/-- The three slots are disjoint. -/
theorem slot3_disjoint (i j : Fin 3) (h : i ≠ j) : Disjoint (slot3 i).set (slot3 j).set :=
  Idealize.ShloMosaic.Ring.lead_disjoint (s := S3x512x256) (0 : Fin 3) 1 (fun i : Fin 3 => ![i.val, 0, 0]) S1x512x256.size inb3 (fun b => by simp) (by rfl) i j h
/-- The three slots fill their buffer. -/
theorem slot3_cover : Finset.univ.biUnion (fun i => (slot3 i).set) = Finset.univ :=
  Idealize.ShloMosaic.Ring.lead_cover (s := S3x512x256) (0 : Fin 3) 1 (fun i : Fin 3 => ![i.val, 0, 0]) S1x512x256.size inb3 (fun b => by simp)
    (fun b => by revert b; decide) (by rfl) (by decide) (by rfl)
/-- The four slots are disjoint. -/
theorem slot4_disjoint (i j : Fin 4) (h : i ≠ j) : Disjoint (slot4 i).set (slot4 j).set :=
  Idealize.ShloMosaic.Ring.lead_disjoint (s := S4x512x128) (0 : Fin 3) 1 (fun i : Fin 4 => ![i.val, 0, 0]) S1x512x128.size inb4 (fun b => by simp) (by rfl) i j h
/-- The four slots fill their buffer. -/
theorem slot4_cover : Finset.univ.biUnion (fun i => (slot4 i).set) = Finset.univ :=
  Idealize.ShloMosaic.Ring.lead_cover (s := S4x512x128) (0 : Fin 3) 1 (fun i : Fin 4 => ![i.val, 0, 0]) S1x512x128.size inb4 (fun b => by simp)
    (fun b => by revert b; decide) (by rfl) (by decide) (by rfl)

/-- A conjunction over three, written out. -/
theorem bigSep_fin3 (Φ : Fin 3 → sProp 𝕄) : bigSep Finset.univ Φ = iprop(Φ 0 ∗ Φ 1 ∗ Φ 2) := bigSep_univ_eq_bigSepL [0, 1, 2] (by decide) (by decide) Φ
/-- A conjunction over four, written out. -/
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-- A key or value buffer's three slots. -/
def three (c : Dev nD) (M : Memref sig .tc .vmem S3x512x256 .bf16) : sProp 𝕄 := iprop(boxAny c M rk0 ∗ boxAny c M rk1 ∗ boxAny c M rk2)
/-- A gather buffer's four slots. -/
def four (c : Dev nD) (M : Memref sig .tc .vmem S4x512x128 .bf16) : sProp 𝕄 := iprop(boxAny c M ra0 ∗ boxAny c M ra1 ∗ boxAny c M ra2 ∗ boxAny c M ra3)

/-- Some contents. -/
def someBuf (ℓ : Loc nD τ sig) : Buf (Elt F) ℓ := fun _ => Classical.choice inferInstance

/-- The key send buffer is cut into its slots. -/
theorem cut1 (c : Dev nD) : wholeAny (F := F) c cc0_scratch1 ⊢ three c ksM := (cut_slots c cc0_scratch1 slot3 slot3_disjoint slot3_cover).trans (Entails.of_eq (bigSep_fin3 _))
/-- The key receive buffer is cut into its slots. -/
theorem cut2 (c : Dev nD) : wholeAny (F := F) c cc0_scratch2 ⊢ three c krM := (cut_slots c cc0_scratch2 slot3 slot3_disjoint slot3_cover).trans (Entails.of_eq (bigSep_fin3 _))
/-- The value send buffer is cut into its slots. -/
theorem cut3 (c : Dev nD) : wholeAny (F := F) c cc0_scratch3 ⊢ three c vsM := (cut_slots c cc0_scratch3 slot3 slot3_disjoint slot3_cover).trans (Entails.of_eq (bigSep_fin3 _))
/-- The value receive buffer is cut into its slots. -/
theorem cut4 (c : Dev nD) : wholeAny (F := F) c cc0_scratch4 ⊢ three c vrM := (cut_slots c cc0_scratch4 slot3 slot3_disjoint slot3_cover).trans (Entails.of_eq (bigSep_fin3 _))
/-- The right-going buffer is cut into its slots. -/
theorem cut5 (c : Dev nD) : wholeAny (F := F) c cc0_scratch5 ⊢ four c arM := (cut_slots c cc0_scratch5 slot4 slot4_disjoint slot4_cover).trans (Entails.of_eq (bigSep_fin4 _))
/-- The left-going buffer is cut into its slots. -/
theorem cut6 (c : Dev nD) : wholeAny (F := F) c cc0_scratch6 ⊢ four c alM := (cut_slots c cc0_scratch6 slot4 slot4_disjoint slot4_cover).trans (Entails.of_eq (bigSep_fin4 _))
/-- The slots of the key send buffer make it up again. -/
theorem join1 (c : Dev nD) : three c ksM ⊢ wholeAny (F := F) c cc0_scratch1 :=
  (Entails.of_eq (bigSep_fin3 (fun i => boxAny c ksM (slot3 i))).symm).trans (join_slots c cc0_scratch1 slot3 slot3_disjoint slot3_cover (someBuf _))
/-- The slots of the key receive buffer make it up again. -/
theorem join2 (c : Dev nD) : three c krM ⊢ wholeAny (F := F) c cc0_scratch2 :=
  (Entails.of_eq (bigSep_fin3 (fun i => boxAny c krM (slot3 i))).symm).trans (join_slots c cc0_scratch2 slot3 slot3_disjoint slot3_cover (someBuf _))
/-- The slots of the value send buffer make it up again. -/
theorem join3 (c : Dev nD) : three c vsM ⊢ wholeAny (F := F) c cc0_scratch3 :=
  (Entails.of_eq (bigSep_fin3 (fun i => boxAny c vsM (slot3 i))).symm).trans (join_slots c cc0_scratch3 slot3 slot3_disjoint slot3_cover (someBuf _))
/-- The slots of the value receive buffer make it up again. -/
theorem join4 (c : Dev nD) : three c vrM ⊢ wholeAny (F := F) c cc0_scratch4 :=
  (Entails.of_eq (bigSep_fin3 (fun i => boxAny c vrM (slot3 i))).symm).trans (join_slots c cc0_scratch4 slot3 slot3_disjoint slot3_cover (someBuf _))
/-- The slots of the right-going buffer make it up again. -/
theorem join5 (c : Dev nD) : four c arM ⊢ wholeAny (F := F) c cc0_scratch5 :=
  (Entails.of_eq (bigSep_fin4 (fun i => boxAny c arM (slot4 i))).symm).trans (join_slots c cc0_scratch5 slot4 slot4_disjoint slot4_cover (someBuf _))
/-- The slots of the left-going buffer make it up again. -/
theorem join6 (c : Dev nD) : four c alM ⊢ wholeAny (F := F) c cc0_scratch6 :=
  (Entails.of_eq (bigSep_fin4 (fun i => boxAny c alM (slot4 i))).symm).trans (join_slots c cc0_scratch6 slot4 slot4_disjoint slot4_cover (someBuf _))

/-- The seven scratch buffers, whole. -/
def scratch (c : Dev nD) : sProp 𝕄 :=
  iprop(wholeAny c cc0_scratch0 ∗ wholeAny c cc0_scratch1 ∗ wholeAny c cc0_scratch2 ∗ wholeAny c cc0_scratch3 ∗ wholeAny c cc0_scratch4
    ∗ wholeAny c cc0_scratch5 ∗ wholeAny c cc0_scratch6)

/-- The scratch buffers are what the body works in, -/
theorem scratch_cut (c : Dev nD) : scratch (F := F) c ⊢ slots c := by
  unfold scratch slots handK handV
  iintro ⟨H0, H1, H2, H3, H4, H5, H6⟩
  ihave H1 := (cut1 c) $$ H1
  ihave H2 := (cut2 c) $$ H2
  ihave H3 := (cut3 c) $$ H3
  ihave H4 := (cut4 c) $$ H4
  ihave H5 := (cut5 c) $$ H5
  ihave H6 := (cut6 c) $$ H6
  unfold three four
  icases H1 with ⟨A0, A1, A2⟩
  icases H2 with ⟨B0, B1, B2⟩
  icases H3 with ⟨C0, C1, C2⟩
  icases H4 with ⟨D0, D1, D2⟩
  icases H5 with ⟨E0, E1, E2, E3⟩
  icases H6 with ⟨G0, G1, G2, G3⟩
  isplitl [H0]; · unfold kvAny wholeAny; iexact H0
  iframe
/-- and the other way round. -/
theorem scratch_join (c : Dev nD) : slots c ⊢ scratch (F := F) c := by
  unfold scratch slots handK handV
  iintro ⟨H0, A0, A1, A2, C0, C1, C2, E0, G0, ⟨B0, B1, B2, E1, E2, E3⟩, ⟨D0, D1, D2, G1, G2, G3⟩⟩
  isplitl [H0]; · unfold kvAny wholeAny; iexact H0
  isplitl [A0 A1 A2]; · iapply (join1 c); unfold three; iframe
  isplitl [B0 B1 B2]; · iapply (join2 c); unfold three; iframe
  isplitl [C0 C1 C2]; · iapply (join3 c); unfold three; iframe
  isplitl [D0 D1 D2]; · iapply (join4 c); unfold three; iframe
  isplitl [E0 E1 E2 E3]; · iapply (join5 c); unfold four; iframe
  iapply (join6 c); unfold four; iframe

/-! ## The cells, all of a device's together -/

/-- Over the twenty-five cells: the transfer cells and the barrier's. -/
theorem split25 (Φ : Fin 25 → sProp 𝕄) :
    bigSep Finset.univ Φ = iprop(bigSep Finset.univ (fun k : Fin 24 => Φ k.castSucc) ∗ Φ (Fin.last 24)) := by
  rw [bigSep_univ_equiv (finSumFinEquiv : Fin 24 ⊕ Fin 1 ≃ Fin 25) Φ, bigSep_univ_sum, bigSep_univ_of_subsingleton (0 : Fin 1)]
  rfl

/-- Sends, then receives. -/
def byKind : Fin 12 ⊕ Fin 12 ≃ Fin 24 := Equiv.ofBijective (Sum.elim sIx rIx) (by decide)
/-- A conjunction over the transfer cells: the send cells, then the receive cells. -/
theorem split24 (Φ : Fin 24 → sProp 𝕄) :
    bigSep Finset.univ Φ = iprop(bigSep Finset.univ (fun i : Fin 12 => Φ (sIx i)) ∗ bigSep Finset.univ (fun i : Fin 12 => Φ (rIx i))) := by
  rw [bigSep_univ_equiv byKind Φ, bigSep_univ_sum]
  rfl

end Cert.KernelIdeal.Ring
-- ==== Proof.RingI.LaunchB.lean ====
/-
The launch: tokens and credit dealt round the ring, the body obligation, the run.
-/
module

public import proofs.«01_k».proof.Proof.RingI.LaunchA

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The tokens -/

/-- The first twenty-four cells of a device are its transfer cells. -/
theorem kcell_x (c : Dev nD) (k : Fin 24) : kcell (c, k.castSucc) = xCell c k := by unfold kcell; rw [csem_x]
/-- A device's last cell is its barrier. -/
theorem kcell_bar (c : Dev nD) : kcell (c, Fin.last 24) = barCell c := by unfold kcell; rw [csem_bar]
/-- A device's cells have different semaphores. -/
theorem csem_injective : Function.Injective csem := by
  intro k k' h
  unfold csem at h
  split at h <;> split at h
  · have := congrArg (fun s : SemLoc sig => match s with | .dma q => q.val | .reg _ => 0) h
    simp only [xs] at this; exact Fin.ext (by omega)
  · exact absurd h (by simp)
  · exact absurd h (by simp)
  · exact Fin.ext (by omega)
/-- All cells of all devices are different. -/
theorem kcell_injective : Function.Injective (kcell : Dev nD × Fin 25 → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- The duty tokens of a device's own cells: its barrier's two, and one per transfer cell. -/
abbrev tokOf (p : Dev nD × (Bool ⊕ Fin 24)) : GSem nD τ sig × ℕ × Bool := match p.2 with
  | .inl d => (kcell (p.1, Fin.last 24), 0, d)
  | .inr k => (kcell (p.1, k.castSucc), 0, false)
/-- All duty tokens are different. -/
theorem tokOf_injective : Function.Injective tokOf := by
  rintro ⟨c, j⟩ ⟨c', j'⟩ h
  rcases j with d | k <;> rcases j' with d' | k'
  · have h1 := kcell_injective (congrArg (fun x : GSem nD τ sig × ℕ × Bool => x.1) h)
    have h2 : d = d' := congrArg (fun x : GSem nD τ sig × ℕ × Bool => x.2.2) h
    have h3 : c = c' := (Prod.mk.inj h1).1
    rw [h2, h3]
  · have h1 := (Prod.mk.inj (kcell_injective (congrArg (fun x : GSem nD τ sig × ℕ × Bool => x.1) h))).2
    exact absurd h1 (Fin.castSucc_lt_last k').ne'
  · have h1 := (Prod.mk.inj (kcell_injective (congrArg (fun x : GSem nD τ sig × ℕ × Bool => x.1) h))).2
    exact absurd h1 (Fin.castSucc_lt_last k).ne
  · have h1 := Prod.mk.inj (kcell_injective (congrArg (fun x : GSem nD τ sig × ℕ × Bool => x.1) h))
    have h3 : c = c' := h1.1
    rw [h3, Fin.castSucc_injective _ h1.2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((dutyTok ER (barCell c) 0 false ∗ dutyTok ER (barCell c) 0 true) ∗ bigSep Finset.univ fun k : Fin 24 => dutyTok ER (xCell c k) 0 false)

/-- What the launch deals device `c`. -/
def G (c : Dev nD) : sProp 𝕄 :=
  iprop((bigSep Finset.univ fun k : Fin 25 => roundState ER (ringRd m) (kcell (c, k)) 0)
    ∗ (bigSep Finset.univ fun k : Fin 25 => iprop(atPos ER (kcell (c, k)) 0 ∅ 0 ∗ reached ER (kcell (c, k)) 0)) ∗ toks c)

/-- The shared part of the records: the invariants and the reached marks. -/
def marks (K : Dev nD × Fin 25 → ℕ) : sProp 𝕄 :=
  iprop((bigSep Finset.univ fun p : Dev nD × Fin 25 => cellInv ER (ringRd m) (K p) (kcell p))
    ∗ bigSep Finset.univ fun p : Dev nD × Fin 25 => reached ER (kcell p) 0)
instance marks_persistent (K : Dev nD × Fin 25 → ℕ) : BI.Persistent (marks m K) := by unfold marks; infer_instance

/-- The tokens device `c` pays with. -/
def payToks (c : Dev nD) : sProp 𝕄 :=
  iprop((dutyTok ER (barCell (nxt c)) 0 false ∗ dutyTok ER (barCell (prv c)) 0 true) ∗ bigSep Finset.univ fun i : Fin 12 => xtok c i)
/-- Its positions and those tokens. -/
def linear (c : Dev nD) : sProp 𝕄 :=
  iprop((bigSep Finset.univ fun k : Fin 25 => atPos ER (kcell (c, k)) 0 ∅ 0) ∗ payToks c)
def G' (c : Dev nD) : sProp 𝕄 := iprop(∃ K, marks m K ∗ linear c)

/-- The initial ghost state gives every device its cells' states, positions and tokens. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_univ_eq_bigSepL [false, true] (by decide) (by decide), bigSepL_cons_cons, bigSepL_singleton]
    simp only [Function.Embedding.coeFn_mk, tokOf, kcell_x, kcell_bar]
    rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The transfer semaphores are the kernel's own; -/
abbrev osem (k : Fin 24) : SemLoc sig := .dma (xs k)
/-- The kernel's own semaphores are the transfer cells, each listed once. -/
theorem ownSemFacts : Pipeline.OwnSemFacts cfg0.spec osem := by decide
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

abbrev ownSems (c : Dev nD) : sProp 𝕄 := Pipeline.ownSems0 (Ix := Unit) (Name := ℕ) (U := UU) (Lvl := ℕ) (Val := Elt F) (τ := τ) osem c
/-- A device's own semaphores at zero are its transfer cells at zero. -/
theorem ownSems_eq (c : Dev nD) : ownSems (F := F) c = bigSep Finset.univ fun k : Fin 24 => semVal (xCell c k) 0 := rfl

/-- With the barrier they are all its cells at zero. -/
theorem sems0_eq (c : Dev nD) :
    iprop(ownSems (F := F) c ∗ unscopedSems0 c) ⊢ (bigSep Finset.univ fun k : Fin 25 => semVal (kcell (c, k)) 0 : sProp 𝕄) := by
  rw [ownSems_eq, unscopedSems0_eq, split25]
  simp only [kcell_x, kcell_bar]
  exact .rfl

/-- A device's cells at zero, with their states, become its cells' invariants. -/
theorem core_alloc (c : Dev nD) :
    iprop(ownSems (F := F) c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 25 => semVal (kcell (c, k)) 0) ∗ bigSep Finset.univ fun k : Fin 25 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The direction of a transfer, as a permutation of the devices. -/
def dir (i : Fin 12) : Dev nD ≃ Dev nD := if i.val % 2 = 0 then ring else ring.symm
/-- The permutation of a transfer is its target. -/
theorem dir_eq (i : Fin 12) (c : Dev nD) : dir i c = tgt i c := by unfold dir tgt; split <;> rfl

/-- The tokens dealt round the ring: each goes to the device that pays it. -/
theorem toks_around : (bigSep Finset.univ fun c : Dev nD => (toks c : sProp 𝕄)) ⊢ bigSep Finset.univ fun c : Dev nD => payToks c := by
  have hx : (bigSep Finset.univ fun c : Dev nD => bigSep Finset.univ fun k : Fin 24 => (dutyTok ER (xCell c k) 0 false : sProp 𝕄))
      = bigSep Finset.univ fun c : Dev nD => bigSep Finset.univ fun i : Fin 12 => xtok c i := by
    rw [bigSep_congr (s := Finset.univ) fun (c : Dev nD) _ => split24 (fun k : Fin 24 => (dutyTok ER (xCell c k) 0 false : sProp 𝕄)), bigSep_sep',
      bigSep_univ_comm (fun (c : Dev nD) (i : Fin 12) => (dutyTok ER (xCell c (rIx i)) 0 false : sProp 𝕄)),
      bigSep_congr (s := Finset.univ) fun (i : Fin 12) _ => bigSep_univ_equiv (dir i) (fun c : Dev nD => (dutyTok ER (xCell c (rIx i)) 0 false : sProp 𝕄)),
      ← bigSep_univ_comm (fun (c : Dev nD) (i : Fin 12) => (dutyTok ER (xCell (dir i c) (rIx i)) 0 false : sProp 𝕄)), ← bigSep_sep']
    refine bigSep_congr fun c _ => ?_
    rw [← bigSep_sep']
    refine bigSep_congr fun i _ => ?_
    unfold xtok; rw [dir_eq]
  unfold toks payToks
  rw [bigSep_sep', bigSep_sep', bigSep_sep', bigSep_sep', hx,
    bigSep_univ_equiv ring (fun c : Dev nD => (dutyTok ER (barCell c) 0 false : sProp 𝕄)),
    bigSep_univ_equiv ring.symm (fun c : Dev nD => (dutyTok ER (barCell c) 0 true : sProp 𝕄))]
  exact .rfl

/-- All devices' cells and tokens, regrouped: every device knows every cell, and holds the tokens it pays. -/
theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 25 => iprop(∃ κ : ℕ, cellInv ER (ringRd m) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (ringRd m) κ (kcell ck) : sProp 𝕄))) $$ HI
  icases HK with ⟨%K, #HI⟩
  ihave Htk := (toks_around (F := F)) $$ Htok
  iapply (bigSep_with_persistent (R := marks m K) (Φ := fun c : Dev nD => linear c) (Ψ := G' m) fun c _ => by
    unfold G'; iintro ⟨H1, H2⟩; iexists K; isplitl [H1] <;> iassumption)
  isplitr
  · unfold marks; isplitl; · iexact HI
    iexact HR
  · unfold linear; rw [bigSep_sep']
    isplitl [Hat]; · iexact Hat
    iexact Htk

/-- The global step: the semaphores of every device at once. -/
theorem glob : (bigSep Finset.univ fun c => iprop(ownSems (F := F) c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Barriers are equal only on the same device. -/
theorem bar_eq_iff {a b : Dev nD} : barCell a = barCell b ↔ a = b :=
  ⟨fun h => congrArg (fun g : GSem nD τ sig => g.1.1) h, fun h => h ▸ rfl⟩
/-- Transfer cells are equal only on the same device and of the same number. -/
theorem x_eq_iff {a b : Dev nD} {k k' : Fin 24} : xCell a k = xCell b k' ↔ a = b ∧ k = k' := by
  refine ⟨fun h => ?_, fun h => by rw [h.1, h.2]⟩
  rw [← kcell_x, ← kcell_x] at h
  have h1 := Prod.mk.inj (kcell_injective h)
  exact ⟨h1.1, Fin.castSucc_injective _ h1.2⟩
/-- A transfer cell is not a barrier. -/
theorem x_ne_bar (a b : Dev nD) (k : Fin 24) : xCell a k ≠ barCell b := fun h => by
  have h1 := congrArg Prod.snd h; simp at h1
/-- Different transfers have different receive cells. -/
theorem rIx_injective : Function.Injective rIx := by decide

/-- What a device owes a receive cell: the transfer's amount if it targets that device and is still to come. -/
theorem owed_x (d c : Dev nD) (i : Fin 12) (n : ℕ) (hn : n ≤ 12) :
    owed d n (xCell c (rIx i)) () = if 11 - i.val < n ∧ tgt i d = c then amt (rIx i) else 0 := by
  induction n with
  | zero => rw [if_neg (fun h => absurd h.1 (Nat.not_lt_zero _))]; rfl
  | succ n ih =>
    unfold owed
    rw [Pi.add_apply, Finsupp.add_apply, ih (by omega), tallyAt_apply]
    by_cases hi : ixOf n = i
    · have hv : i.val = 11 - n := by rw [← hi]; rfl
      subst hi
      rw [if_neg (fun h => by omega), Nat.zero_add]
      by_cases ht : tgt (ixOf n) d = c
      · rw [if_pos ⟨by rw [ht], rfl⟩, if_pos ⟨by omega, ht⟩]
      · rw [if_neg (fun h => ht (x_eq_iff.mp h.1).1.symm), if_neg (fun h => ht h.2)]
    · have hv : i.val ≠ 11 - n := fun h => hi (Fin.ext (by rw [h]; rfl))
      rw [if_neg (fun h : xCell c (rIx i) = _ ∧ _ => hi (rIx_injective (x_eq_iff.mp h.1).2).symm), Nat.add_zero]
      have := i.isLt
      exact if_congr (by constructor <;> rintro ⟨h1, h2⟩ <;> exact ⟨by omega, h2⟩) rfl rfl

/-- The transfers owe the barrier nothing. -/
theorem owed_b (d c : Dev nD) (n : ℕ) : owed d n (barCell c) () = 0 := by
  induction n with
  | zero => rfl
  | succ n ih =>
    unfold owed
    rw [Pi.add_apply, Finsupp.add_apply, ih, tallyAt_apply, if_neg (fun h => x_ne_bar _ _ _ h.1.symm)]

/-- What device `d` owes device `c`'s receive cell of transfer `i`. -/
theorem owe_x (d c : Dev nD) (i : Fin 12) : O₀ d (xCell c (rIx i)) () = if d = (dir i).symm c then amt (rIx i) else 0 := by
  unfold O₀ O₁
  rw [Pi.add_apply, Finsupp.add_apply, Pi.add_apply, Finsupp.add_apply, owed_x d c i 12 (Nat.le_refl 12), tallyAt_apply, tallyAt_apply,
    if_neg (c := xCell c (rIx i) = barCell (nxt d) ∧ () = ()) (fun h => x_ne_bar _ _ _ h.1),
    if_neg (c := xCell c (rIx i) = barCell (prv d) ∧ () = ()) (fun h => x_ne_bar _ _ _ h.1), Nat.add_zero]
  refine if_congr ?_ rfl rfl
  rw [← dir_eq, Equiv.eq_symm_apply]
  exact ⟨fun h => h.2, fun h => ⟨by omega, h⟩⟩

/-- What device `d` owes device `c`'s barrier cell. -/
theorem owe_bar (d c : Dev nD) : O₀ d (barCell c) () = (if d = prv c then 1 else 0) + (if d = nxt c then 1 else 0) := by
  unfold O₀ O₁
  rw [Pi.add_apply, Finsupp.add_apply, Pi.add_apply, Finsupp.add_apply, owed_b, tallyAt_apply, tallyAt_apply, Nat.zero_add]
  congr 1
  · exact if_congr ⟨fun h => by rw [bar_eq_iff.mp h.1, prv_nxt], fun h => ⟨by rw [h, nxt_prv], rfl⟩⟩ rfl rfl
  · exact if_congr ⟨fun h => by rw [bar_eq_iff.mp h.1, nxt_prv], fun h => ⟨by rw [h, prv_nxt], rfl⟩⟩ rfl rfl

/-- The launch credits a barrier with two units. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owe_bar d c, Finset.sum_add_distrib,
    Finset.sum_ite_eq' Finset.univ (prv c) fun _ => 1, Finset.sum_ite_eq' Finset.univ (nxt c) fun _ => 1, if_pos (Finset.mem_univ _), if_pos (Finset.mem_univ _)]

/-- The launch credits a receive cell with its transfer's amount. -/
theorem launch_x (c : Dev nD) (i : Fin 12) :
    tallyOn (xCell c (rIx i)) (launchCredit (Pipeline.owing O₀) 0 (xCell c (rIx i)))
      = (tallyAt (xCell c (rIx i)) () (amt (rIx i)) : CellTallies nD τ sig Unit) := by
  unfold tallyAt; refine congrArg _ (Finsupp.ext fun u => ?_); cases u
  rw [Pipeline.launchCredit_owing, Finsupp.single_eq_same, Finset.sum_congr rfl fun d _ => owe_x d c i,
    Finset.sum_ite_eq' Finset.univ ((dir i).symm c) fun _ => amt (rIx i), if_pos (Finset.mem_univ _)]

/-- The semaphores a device's receives complete on. -/
def recvSem : Fin 12 ↪ SemLoc sig := ⟨fun i => .dma (xs (rIx i)), fun i j h => rIx_injective (x_eq_iff.mp (congrArg (Prod.mk ((0 : Dev nD) : Thread nD τ)) h)).2⟩

/-- A device's launch credit is two units at its barrier and one transfer's amount at each receive cell. -/
theorem creds (c : Dev nD) :
    (Pipeline.launchCred O₀ c : sProp 𝕄) ⊢ iprop(cred (tallyAt (barCell c) () 2) ∗ bigSep Finset.univ (fun i : Fin 12 => (cR c i : sProp 𝕄))) := by
  unfold Pipeline.launchCred
  rw [bigSep_univ_at _ (SemLoc.reg barS), launch_bar]
  refine sep_mono_right ?_
  refine (bigSep_subset (t := Finset.univ.map recvSem) fun s hs => ?_).trans ?_
  · obtain ⟨i, -, rfl⟩ := Finset.mem_map.mp hs
    exact Finset.mem_erase.mpr ⟨by simp [recvSem], Finset.mem_univ _⟩
  · rw [bigSep_map]
    exact bigSep_mono fun i _ => Entails.of_eq (congrArg cred (launch_x c i))

end Cert.KernelIdeal.Ring
-- ==== Proof.RingI.LaunchC.lean ====
/-
The launch: the body obligation and the run.
-/
module

public import proofs.«01_k».proof.Proof.RingI.LaunchB
public import Idealize.ShloMosaic.Lib.Pipeline.CollectiveSegs
public import Idealize.ShloMosaic.Lib.Pipeline.ValueKit.Geometry

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The body obligation -/

/-- What the body starts from, and what it ends with. -/
def start (c : Dev nD) : sProp 𝕄 := iprop(∃ K, records m K ∗ funds c)
def Φ₀ (c : Dev nD) : sProp 𝕄 := iprop(start m c ∗ slots c)
def Φ₁ (c : Dev nD) : sProp 𝕄 := iprop(rested c ∗ slots c)

def dats (_ : Fin 1) (c : Dev nD) : Dat τ (Elt F) Unit ℕ UU ℕ cfg0 c where
  A w := V m c (Pipeline.arrRef spec0 w)
  after w _ := match w with
    | ⟨0, _⟩ => xC m c
    | ⟨1, _⟩ => wdC m c
    | ⟨2, _⟩ => wkC m c
    | ⟨3, _⟩ => wvC m c
    | ⟨4, _⟩ => wqC m c
    | ⟨5, _⟩ => wqrC m c
    | ⟨6, _⟩ => wkrC m c
    | ⟨7, _⟩ => woC m c
    | ⟨8, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- An input's staging buffer holds its block when the body starts. -/
theorem before_in (c : Dev nD) (w : Fin cfg0.W) (hf : ∀ t, (cfg0.win w).fetch t = true)
    (hx : ∀ d, (dats m 0 c).fetched w t0_0 d = (dats m 0 c).after w t0_0) (d) : (dats m 0 c).before w t0_0 d = (dats m 0 c).after w t0_0 := by
  unfold Dat.before; rw [if_pos (hf t0_0)]; exact hx d

/-- Owning a whole buffer at named contents, written out. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ stgAt c b f) := by
  unfold owns; simp only [Memref.view_whole, View.read_whole, View.set_whole]

/-- A staging buffer at named contents, as the pipeline holds it. -/
abbrev stg (c : Dev nD) (b : Ref sig .tc) (X : b.ty.Contents (Elt F)) : sProp 𝕄 :=
  iprop(∃ f : Buf (Elt F) (((c : Dev nD) : Thread nD τ).loc b), ⌜f = X⌝ ∗ stgAt c b f)
/-- A staging buffer as the pipeline holds it is held at its contents, -/
theorem stg_out (c : Dev nD) (b : Ref sig .tc) (X Y : b.ty.Contents (Elt F)) (h : X = Y) : stg c b X ⊢ stgAt c b Y := by
  unfold stg; iintro ⟨%f, %hf, H⟩; subst h; subst hf; iexact H
/-- and back. -/
theorem stg_in (c : Dev nD) (b : Ref sig .tc) (X : b.ty.Contents (Elt F)) : stgAt c b X ⊢ stg c b X := by
  unfold stg; iintro H; iexists X; isplitr; · ipureintro; rfl
  iexact H

def bodyPre (c : Dev nD) : sProp 𝕄 :=
  iprop(Φ₀ m c ∗ (dats m 0 c).owesAt () t0_0.castSucc
    ∗ (∃ d, stg c cc0_stg0_0 ((dats m 0 c).before (0 : Fin 9) t0_0 d))
    ∗ (∃ d, stg c cc0_stg1_0 ((dats m 0 c).before (1 : Fin 9) t0_0 d))
    ∗ (∃ d, stg c cc0_stg2_0 ((dats m 0 c).before (2 : Fin 9) t0_0 d))
    ∗ (∃ d, stg c cc0_stg3_0 ((dats m 0 c).before (3 : Fin 9) t0_0 d))
    ∗ (∃ d, stg c cc0_stg4_0 ((dats m 0 c).before (4 : Fin 9) t0_0 d))
    ∗ (∃ d, stg c cc0_stg5_0 ((dats m 0 c).before (5 : Fin 9) t0_0 d))
    ∗ (∃ d, stg c cc0_stg6_0 ((dats m 0 c).before (6 : Fin 9) t0_0 d))
    ∗ (∃ d, stg c cc0_stg7_0 ((dats m 0 c).before (7 : Fin 9) t0_0 d))
    ∗ (∃ d, stg c cc0_stg8_0 ((dats m 0 c).before (8 : Fin 9) t0_0 d)))
def bodyPost (c : Dev nD) : sProp 𝕄 :=
  iprop(Φ₁ c ∗ (dats m 0 c).owesAt () t0_0.succ
    ∗ stg c cc0_stg0_0 (xC m c) ∗ stg c cc0_stg1_0 (wdC m c) ∗ stg c cc0_stg2_0 (wkC m c) ∗ stg c cc0_stg3_0 (wvC m c)
    ∗ stg c cc0_stg4_0 (wqC m c) ∗ stg c cc0_stg5_0 (wqrC m c) ∗ stg c cc0_stg6_0 (wkrC m c) ∗ stg c cc0_stg7_0 (woC m c)
    ∗ stg c cc0_stg8_0 (outV m c))

/-- What a device owes when the body starts: all it owes at launch. -/
theorem owes_start (c : Dev nD) : (dats m 0 c).owesAt () t0_0.castSucc ⊢ ow c (O₀ c) := by
  unfold Dat.owesAt Pipeline.owesWithin ow
  rw [show (dats m 0 c).owed t0_0.castSucc = O₀ c from rfl]
  iintro ⟨%W, -, H⟩; iexists W; iexact H
/-- Owing nothing is what the pipeline asks when the body ends. -/
theorem owes_end (c : Dev nD) : ow c 0 ⊢ (dats m 0 c).owesAt () t0_0.succ := by
  unfold Dat.owesAt Pipeline.owesWithin ow
  rw [show (dats m 0 c).owed t0_0.succ = 0 from rfl]
  iintro ⟨%W, H⟩; iexists W
  isplitr; · ipureintro; exact fun _ _ => Or.inl trivial
  iexact H

/-- The body takes what the pipeline holds before it to what the pipeline holds after it. -/
theorem body_sound (c : Dev nD) : bodyPre m c ⊢ WP c (atBufs (cc0_body (F := F))) (fun _ => bodyPost m c) := by
  unfold bodyPre Φ₀ start
  iintro ⟨⟨⟨%K, #HR, Hf⟩, Hs⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave H0 := (stg_out c cc0_stg0_0 _ (xC m c) (before_in m c 0 (fun t => by rw [fin_N0 t]; rfl) (fun _ => rfl) d0)) $$ H0
  ihave H1 := (stg_out c cc0_stg1_0 _ (wdC m c) (before_in m c 1 (fun t => by rw [fin_N0 t]; rfl) (fun _ => rfl) d1)) $$ H1
  ihave H2 := (stg_out c cc0_stg2_0 _ (wkC m c) (before_in m c 2 (fun t => by rw [fin_N0 t]; rfl) (fun _ => rfl) d2)) $$ H2
  ihave H3 := (stg_out c cc0_stg3_0 _ (wvC m c) (before_in m c 3 (fun t => by rw [fin_N0 t]; rfl) (fun _ => rfl) d3)) $$ H3
  ihave H4 := (stg_out c cc0_stg4_0 _ (wqC m c) (before_in m c 4 (fun t => by rw [fin_N0 t]; rfl) (fun _ => rfl) d4)) $$ H4
  ihave H5 := (stg_out c cc0_stg5_0 _ (wqrC m c) (before_in m c 5 (fun t => by rw [fin_N0 t]; rfl) (fun _ => rfl) d5)) $$ H5
  ihave H6 := (stg_out c cc0_stg6_0 _ (wkrC m c) (before_in m c 6 (fun t => by rw [fin_N0 t]; rfl) (fun _ => rfl) d6)) $$ H6
  ihave H7 := (stg_out c cc0_stg7_0 _ (woC m c) (before_in m c 7 (fun t => by rw [fin_N0 t]; rfl) (fun _ => rfl) d7)) $$ H7
  ihave Ho := (owes_start m c) $$ Ho
  iapply (sound_body m K c (fun _ => bodyPost m c))
  isplitr; · iexact HR
  isplitl [Hf]; · iexact Hf
  isplitl [Hs]; · iexact Hs
  isplitl [H0 H1 H2 H3 H4 H5 H6 H7]
  · unfold ins inA inB inC; iframe
  isplitl [H8]
  · unfold stg; icases H8 with ⟨%f, -, H8⟩; iexists f; iexact H8
  isplitl [Ho]; · iexact Ho
  unfold bodyPost Φ₁ ins inA inB inC
  iintro ⟨Hr, Hs, ⟨⟨H0, H1, H2, H3⟩, ⟨H4, H5, H6⟩, H7⟩, H8, Ho⟩
  ihave Ho := (owes_end m c) $$ Ho
  isplitl [Hr Hs]; · iframe
  isplitl [Ho]; · iexact Ho
  isplitl [H0]; · iapply (stg_in c cc0_stg0_0); iexact H0
  isplitl [H1]; · iapply (stg_in c cc0_stg1_0); iexact H1
  isplitl [H2]; · iapply (stg_in c cc0_stg2_0); iexact H2
  isplitl [H3]; · iapply (stg_in c cc0_stg3_0); iexact H3
  isplitl [H4]; · iapply (stg_in c cc0_stg4_0); iexact H4
  isplitl [H5]; · iapply (stg_in c cc0_stg5_0); iexact H5
  isplitl [H6]; · iapply (stg_in c cc0_stg6_0); iexact H6
  isplitl [H7]; · iapply (stg_in c cc0_stg7_0); iexact H7
  iapply (stg_in c cc0_stg8_0); iexact H8

set_option maxRecDepth 40000 in
/-- The library's body obligation on core `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ WP c (atBufs (cc0_body (F := F))) (fun _ => bodyPost m c)
  exact body_sound m c

/-! ## The launch -/

/-- Every window is held in full. -/
theorem share_eq (c : Dev nD) (w : Fin cfg0.W) : (dats m 0 c).share w = fullShare := by unfold Dat.share; split <;> rfl

/-- What a device is dealt is what its body starts from. -/
theorem funds_intro (c : Dev nD) :
    iprop(linear (F := F) c ∗ cred (tallyAt (barCell c) () 2) ∗ bigSep Finset.univ (fun i : Fin 12 => (cR c i : sProp 𝕄))) ⊢ funds c := by
  unfold linear payToks funds
  rw [split25]
  simp only [kcell_x, kcell_bar]
  iintro ⟨⟨⟨Hx, Hb⟩, ⟨Hn, Hp⟩, Ht⟩, Hc, Hr⟩
  iframe

/-- What the launch deals a device is what its run starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' marks
  iintro ⟨-, Hlev, Hcr, -, ⟨%K, ⟨HI, HR⟩, HG⟩⟩
  ihave Hc := (creds (F := F) c) $$ Hcr
  icases Hc with ⟨H1, HN⟩
  imodintro
  isplitl
  · unfold start; iexists K
    isplitl [Hlev HI HR]
    · unfold records
      isplitl [Hlev]; · iexact Hlev
      isplitl [HI] <;> iassumption
    · iapply (funds_intro (F := F) c)
      isplitl [HG]; · iexact HG
      isplitl [H1] <;> iassumption
  · iempintro

/-- The launch's scratch buffers are the seven named ones. -/
theorem scratch_eq (c : Dev nD) :
    (Pipeline.scopedRest (Ix := Unit) (Name := ℕ) (U := UU) (Lvl := ℕ) (Val := Elt F) spec0 c : sProp 𝕄) = scratch c := by
  rw [scopedRest0_eq]; rfl

/-- The start and the scratch buffers make the state before the body. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show (Pipeline.scopedRest cfg0.spec c : sProp 𝕄) = scratch c from scratch_eq c]
  unfold Φ₀
  iintro ⟨Hs, -, Hr⟩
  isplitl [Hs]; · iexact Hs
  iapply (scratch_cut c); iexact Hr

/-- The state after the body gives back the semaphores at zero and the scratch buffers. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, show (Pipeline.scopedRest cfg0.spec c : sProp 𝕄) = scratch c from scratch_eq c,
    unscopedSems0_eq]
  show Φ₁ c ⊢ iprop(semVal (barCell c) 0 ∗ ownSems c ∗ scratch c)
  rw [ownSems_eq]
  unfold Φ₁ rested
  iintro ⟨⟨Hb, Hx⟩, Hs⟩
  isplitl [Hb]; · iexact Hb
  isplitl [Hx]; · iexact Hx
  iapply (scratch_join c); iexact Hs

/-- Every wait of the pipeline is allowed by the levels. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero counters, every weakly fair execution of `main` on the four devices terminates with each
    device's arrays at the computed contents and every semaphore counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input arrays hold what they held. -/
theorem final_in (c : Dev nD) (w : Fin cfg0.W) (h : (cfg0.win w).isOut = false) : finalA m c w = V m c (Pipeline.arrRef spec0 w) :=
  (dats (F := F) m 0 c).arrAt_in w h _

/-- The output array holds what the body left in its staging buffer. -/
theorem final_out (c : Dev nD) : finalA m c (8 : Fin 9) = outV m c :=
  (dats (F := F) m 0 c).arrAt_eq_of_after_last (8 : Fin 9) t0_0 (by decide +kernel) (outV m c) (fun j => rfl)

/-- The arguments are unchanged after a run. -/
def Kept (r : PUnit × MemSt nD τ sig (Elt F)) (c : Dev nD) : Prop :=
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)

/-- The run: the results at the computed contents, the arguments unchanged, the counters at zero. -/
theorem run_value : θ_run defs (onTc (τ := τ) (main (F := F))) ⟨m, fun _ => 0, ρ⟩ (fun r =>
    (∀ c : Dev nD, r.2.mem ((c.tc : Thread nD τ).loc main_v1) = outV m c ∧ Kept m r c) ∧ r.2.sem = fun _ => 0) :=
  (θ_run defs _ _).mono (fun r h => ⟨fun c => ⟨((h.1 c) (8 : Fin 9)).trans (final_out m c),
      ((h.1 c) (0 : Fin 9)).trans (final_in m c (0 : Fin 9) rfl),
      ((h.1 c) (1 : Fin 9)).trans (final_in m c (1 : Fin 9) rfl),
      ((h.1 c) (2 : Fin 9)).trans (final_in m c (2 : Fin 9) rfl),
      ((h.1 c) (3 : Fin 9)).trans (final_in m c (3 : Fin 9) rfl),
      ((h.1 c) (4 : Fin 9)).trans (final_in m c (4 : Fin 9) rfl),
      ((h.1 c) (5 : Fin 9)).trans (final_in m c (5 : Fin 9) rfl),
      ((h.1 c) (6 : Fin 9)).trans (final_in m c (6 : Fin 9) rfl),
      ((h.1 c) (7 : Fin 9)).trans (final_in m c (7 : Fin 9) rfl)⟩, h.2⟩) (run_main m ρ)

end Cert.KernelIdeal.Ring
-- ==== Proof.Value.Model.lean ====
/-
The mathematics of the layer, on plain functions of coordinates with extended-real values: projections, scores, one
head's attention, and the output projection; and how a sum over all columns splits into the devices' blocks.
-/
module

public import Idealize.ShloMosaic.PureOps
public import Idealize.ShloMosaic.Lib.Pointwise

@[expose] public section

noncomputable section

namespace Cert.Val

open Idealize.ShloMosaic

/-- Rows of each of two batch entries times a matrix. -/
def lin {k n : ℕ} (X : Fin 2 → Fin 256 → Fin k → EReal) (W : Fin k → Fin n → EReal) (b : Fin 2) (s : Fin 256) (j : Fin n) : EReal :=
  ∑ d : Fin k, X b s d * W d j

/-- Column `e` of head `h`, of 64 columns a head; -/
def col (h : Fin 16) (e : Fin 64) : Fin 1024 := ⟨h.val * 64 + e.val, by omega⟩
/-- and of 32 columns a head. -/
def colR (h : Fin 16) (e : Fin 32) : Fin 512 := ⟨h.val * 32 + e.val, by omega⟩
/-- The head a column belongs to, -/
def hd (n : Fin 1024) : Fin 16 := ⟨n.val / 64, by omega⟩
/-- and the column's place in it. -/
def pos (n : Fin 1024) : Fin 64 := ⟨n.val % 64, by omega⟩

/-- The scaled scores of one head. -/
def score (q k : Fin 256 → Fin 64 → EReal) (qr kr : Fin 256 → Fin 32 → EReal) (s t : Fin 256) : EReal :=
  (∑ e : Fin 64, q s e * k t e + ∑ e : Fin 32, qr s e * kr t e) * Ideal.ofBits FTy.f32 1037108716#32

/-- The exponential of a score below the largest of its row. -/
def expo (σ : Fin 256 → Fin 256 → EReal) (s t : Fin 256) : EReal :=
  Ideal.exp (σ s t - Finset.fold max (Ideal.ofBits FTy.f32 4286578688#32) (fun u => σ s u) Finset.univ)

/-- One head's output: the values weighted by the normalised exponentials. -/
def head (σ : Fin 256 → Fin 256 → EReal) (v : Fin 256 → Fin 64 → EReal) (s : Fin 256) (e : Fin 64) : EReal :=
  ∑ t : Fin 256, v t e * Ideal.div (expo σ s t) (∑ u : Fin 256, expo σ s u)

section
variable (X : Fin 2 → Fin 256 → Fin 1024 → EReal) (D : Fin 1024 → Fin 256 → EReal) (UK UV : Fin 256 → Fin 1024 → EReal)
  (Q : Fin 1024 → Fin 1024 → EReal) (QR : Fin 1024 → Fin 512 → EReal) (KR : Fin 1024 → Fin 32 → EReal) (WO : Fin 1024 → Fin 1024 → EReal)

/-- The output of head `h`. -/
def heads (b : Fin 2) (h : Fin 16) : Fin 256 → Fin 64 → EReal :=
  head (score (fun s e => lin X Q b s (col h e)) (fun t e => lin (lin X D) UK b t (col h e))
      (fun s e => lin X QR b s (colR h e)) (lin X KR b))
    (fun t e => lin (lin X D) UV b t (col h e))

/-- The layer's output. -/
def layer (b : Fin 2) (s : Fin 256) (o : Fin 1024) : EReal :=
  ∑ n : Fin 1024, heads X D UK UV Q QR KR b (hd n) s (pos n) * WO n o
end

/-- Row or column `w` of block `c`, of four blocks of `n`. -/
def blk {n N : ℕ} (h : n * 4 = N) (c : Fin 4) (w : Fin n) : Fin N := ⟨n * c.val + w.val, by
  subst h; have := c.isLt; have := w.isLt; have : n * c.val ≤ n * 3 := Nat.mul_le_mul_left _ (by omega); omega⟩

/-- A sum over all the blocks' places is the sum of the blocks' sums. -/
theorem sum_blk {n N : ℕ} (h : n * 4 = N) (f : Fin N → EReal) :
    ∑ i : Fin N, f i = ∑ c : Fin 4, ∑ w : Fin n, f (blk h c w) := by
  have hN : 4 * n = N := by omega
  rw [← Fintype.sum_prod_type', ← Equiv.sum_comp (finProdFinEquiv.trans (finCongr hN))]
  refine Finset.sum_congr rfl fun x _ => congrArg f (Fin.ext ?_)
  simp [blk, finProdFinEquiv, Nat.add_comm]

/-- Place `w` of half `a` of block `c`, of four blocks of two halves of 128. -/
def hblk (c : Fin 4) (a : Fin 2) (w : Fin 128) : Fin 1024 := ⟨256 * c.val + (128 * a.val + w.val), by omega⟩

/-- A sum over 1024 places is the sum over four blocks of the two halves' sums. -/
theorem sum_hblk (f : Fin 1024 → EReal) :
    ∑ i : Fin 1024, f i = ∑ c : Fin 4, (∑ w : Fin 128, f (hblk c 0 w) + ∑ w : Fin 128, f (hblk c 1 w)) := by
  rw [sum_blk (n := 256) rfl]
  refine Finset.sum_congr rfl fun c _ => ?_
  rw [Fin.sum_univ_add (a := 128) (b := 128)]
  refine congrArg₂ (· + ·) (Finset.sum_congr rfl fun w _ => congrArg f (Fin.ext ?_)) (Finset.sum_congr rfl fun w _ => congrArg f (Fin.ext ?_))
  all_goals simp [blk, hblk, Nat.add_comm]

/-- An array of rank two, as a function of its coordinates; -/
def fn2 {n0 n1 : ℕ} (v : (⟨2, ![n0, n1]⟩ : Shape).Idx → EReal) (a : Fin n0) (b : Fin n1) : EReal := v (ix2 a b)
/-- and of rank three. -/
def fn3 {n0 n1 n2 : ℕ} (v : (⟨3, ![n0, n1, n2]⟩ : Shape).Idx → EReal) (a : Fin n0) (b : Fin n1) (c : Fin n2) : EReal := v (ix3 a b c)

end Cert.Val

end
-- ==== Proof.Value.Pay.lean ====
/-
The kernel's vector computations, entry by entry, over the extended reals.
-/
module

public import proofs.«01_k».proof.Proof.RingI.Vals
public import proofs.«01_k».proof.Proof.Value.Model
public import Idealize.ShloMosaic.Lib.Pointwise

@[expose] public section

noncomputable section

namespace Cert.KernelIdeal.Val

open Cert.KernelIdeal Cert.KernelIdeal.Gen
open Idealize.ShloMosaic
open Cert.Val

/-- Row `s` of batch entry `b`, of the flattened rows; -/
def row (b : Fin 2) (s : Fin 256) : Fin 512 := ⟨b.val * 256 + s.val, by omega⟩
/-- column `e` of head `h` of a device's four, -/
def col4 (h : Fin 4) (e : Fin 64) : Fin 256 := ⟨h.val * 64 + e.val, by omega⟩
/-- and of its 32 rotary columns. -/
def colR4 (h : Fin 4) (e : Fin 32) : Fin 128 := ⟨h.val * 32 + e.val, by omega⟩

/-- The output of head `h` of a device's four, from the device's projections. -/
def khead (q k v : FVec Ideal S512x256 .bf16) (qr : FVec Ideal S512x128 .bf16) (kr : FVec Ideal S512x32 .bf16) (b : Fin 2) (h : Fin 4) :
    Fin 256 → Fin 64 → EReal :=
  head (score (fun s e => q (ix2 (row b s) (col4 h e))) (fun t e => k (ix2 (row b t) (col4 h e)))
      (fun s e => qr (ix2 (row b s) (colR4 h e))) (fun t e => kr (ix2 (row b t) e)))
    (fun t e => v (ix2 (row b t) (col4 h e)))

open Cert.KernelIdeal.Ring

set_option maxRecDepth 16384

variable (m : (ℓ : Loc nD τ sig) → Buf (Elt Ideal) ℓ) (c : Dev nD)

/-! ## The eight head outputs -/

/-- The factors in a sum of products may be swapped. -/
theorem sum_mul_swap (f g : Fin 256 → EReal) : ∑ t, f t * g t = ∑ t, g t * f t :=
  Finset.sum_congr rfl fun _ _ => mul_comm _ _

/-- The flattened row of batch entry 0 is the row itself. -/
theorem row_zero (s : Fin 256) : row 0 s = ⟨s.val, by omega⟩ := Fin.ext (Nat.zero_add _)
/-- The flattened row of batch entry 1 is 256 further. -/
theorem row_one (s : Fin 256) : row 1 s = ⟨256 + s.val, by omega⟩ := rfl
/-- Head 0's columns come first. -/
theorem col4_zero (e : Fin 64) : col4 0 e = ⟨e.val, by omega⟩ := Fin.ext (Nat.zero_add _)
/-- Head 0's rotary columns come first. -/
theorem colR4_zero (e : Fin 32) : colR4 0 e = ⟨e.val, by omega⟩ := Fin.ext (Nat.zero_add _)

/-- A device's head `h` on batch entry `b`. -/
def oH (b : Fin 2) (h : Fin 4) : Fin 256 → Fin 64 → EReal := khead (qV m c) (kMy m c) (vMy m c) (qrV m c) (krV m c) b h

/-- The output of head 0 of the device for batch entry 0, as the kernel computes it, is that head of its projections. -/
theorem o00_apply (s : Fin 256) (e : Fin 64) : o00 m c (ix3 0 s e) = oH m c 0 0 s e := by
  pointwise [o00, k0_pay31, k0_pay30, k0_pay29, s00, k0_pay15, k0_pay14, oH, khead, head, expo, score, row_zero, row_one, col4_zero, colR4_zero, col4, colR4, kMy]
  rw [sum_mul_swap]

/-- The output of head 1 of the device for batch entry 0, as the kernel computes it, is that head of its projections. -/
theorem o01_apply (s : Fin 256) (e : Fin 64) : o01 m c (ix3 0 s e) = oH m c 0 1 s e := by
  pointwise [o01, k0_pay32, s01, k0_pay16, k0_pay14, oH, khead, head, expo, score, row_zero, row_one, col4_zero, colR4_zero, col4, colR4]
  rw [sum_mul_swap]

/-- The output of head 2 of the device for batch entry 0, as the kernel computes it, is that head of its projections. -/
theorem o02_apply (s : Fin 256) (e : Fin 64) : o02 m c (ix3 0 s e) = oH m c 0 2 s e := by
  pointwise [o02, k0_pay35, k0_pay34, k0_pay33, s02, k0_pay17, k0_pay14, oH, khead, head, expo, score, row_zero, row_one, col4_zero, colR4_zero, col4, colR4]
  rw [sum_mul_swap]

/-- The output of head 3 of the device for batch entry 0, as the kernel computes it, is that head of its projections. -/
theorem o03_apply (s : Fin 256) (e : Fin 64) : o03 m c (ix3 0 s e) = oH m c 0 3 s e := by
  pointwise [o03, k0_pay36, s03, k0_pay18, k0_pay14, oH, khead, head, expo, score, row_zero, row_one, col4_zero, colR4_zero, col4, colR4]
  rw [sum_mul_swap]

/-- The output of head 0 of the device for batch entry 1, as the kernel computes it, is that head of its projections. -/
theorem o10_apply (s : Fin 256) (e : Fin 64) : o10 m c (ix3 0 s e) = oH m c 1 0 s e := by
  pointwise [o10, k0_pay38, k0_pay37, s10, k0_pay20, k0_pay19, oH, khead, head, expo, score, row_zero, row_one, col4_zero, colR4_zero, col4, colR4]
  rw [sum_mul_swap]

/-- The output of head 1 of the device for batch entry 1, as the kernel computes it, is that head of its projections. -/
theorem o11_apply (s : Fin 256) (e : Fin 64) : o11 m c (ix3 0 s e) = oH m c 1 1 s e := by
  pointwise [o11, k0_pay39, s11, k0_pay21, k0_pay19, oH, khead, head, expo, score, row_zero, row_one, col4_zero, colR4_zero, col4, colR4]
  rw [sum_mul_swap]

/-- The output of head 2 of the device for batch entry 1, as the kernel computes it, is that head of its projections. -/
theorem o12_apply (s : Fin 256) (e : Fin 64) : o12 m c (ix3 0 s e) = oH m c 1 2 s e := by
  pointwise [o12, k0_pay42, k0_pay41, k0_pay40, s12, k0_pay22, k0_pay19, oH, khead, head, expo, score, row_zero, row_one, col4_zero, colR4_zero, col4, colR4]
  rw [sum_mul_swap]

/-- The output of head 3 of the device for batch entry 1, as the kernel computes it, is that head of its projections. -/
theorem o13_apply (s : Fin 256) (e : Fin 64) : o13 m c (ix3 0 s e) = oH m c 1 3 s e := by
  pointwise [o13, k0_pay43, s13, k0_pay23, k0_pay19, oH, khead, head, expo, score, row_zero, row_one, col4_zero, colR4_zero, col4, colR4]
  rw [sum_mul_swap]

/-! ## The boxes of head outputs -/

/-- Four outputs side by side, read at batch entry `b` and column `w`. -/
theorem glue_apply (p : Fin 2 → Fin 2 → Vec Ideal S1x256x64 .bf16) (b : Fin 2) (s : Fin 256) (w : Fin 128) :
    glue (p 0 0) (p 0 1) (p 1 0) (p 1 1) (ix3 0 (row b s) w) = p b ⟨w.val / 64, by omega⟩ (ix3 0 s ⟨w.val % 64, by omega⟩) := by
  have hz : gluePos (ix3 0 (row b s) w) = ix3 0 s ⟨w.val % 64, by omega⟩ := by
    funext a
    refine Fin.ext ?_
    fin_cases a
    · rfl
    · show (b.val * 256 + s.val) % 256 = s.val
      omega
    · rfl
  show (if (row b s).val < 256 then (if w.val < 64 then p 0 0 (gluePos (ix3 0 (row b s) w)) else p 0 1 (gluePos (ix3 0 (row b s) w)))
    else (if w.val < 64 then p 1 0 (gluePos (ix3 0 (row b s) w)) else p 1 1 (gluePos (ix3 0 (row b s) w)))) = _
  rw [hz]
  have hb : b = if (row b s).val < 256 then 0 else 1 := by
    have := b.isLt; have := s.isLt
    refine Fin.ext ?_
    show b.val = _
    split <;> rename_i h <;> simp only [row] at h <;> simp <;> omega
  have hw : (⟨w.val / 64, by omega⟩ : Fin 2) = if w.val < 64 then 0 else 1 := by
    refine Fin.ext ?_
    show w.val / 64 = _
    split <;> simp <;> omega
  rw [hw]
  split <;> rename_i h <;> simp only [h, if_true, if_false] at hb <;> subst hb <;> split <;> rfl

/-- The head outputs of the right-going box, by batch entry and head, -/
theorem right_apply (b u : Fin 2) (s : Fin 256) (e : Fin 64) :
    ![![o00 m c, o01 m c], ![o10 m c, o11 m c]] b u (ix3 0 s e) = oH m c b ⟨u.val, by omega⟩ s e :=
  match b, u with
  | 0, 0 => o00_apply m c s e
  | 0, 1 => o01_apply m c s e
  | 1, 0 => o10_apply m c s e
  | 1, 1 => o11_apply m c s e

/-- and of the left-going one. -/
theorem left_apply (b u : Fin 2) (s : Fin 256) (e : Fin 64) :
    ![![o02 m c, o03 m c], ![o12 m c, o13 m c]] b u (ix3 0 s e) = oH m c b ⟨2 + u.val, by omega⟩ s e :=
  match b, u with
  | 0, 0 => o02_apply m c s e
  | 0, 1 => o03_apply m c s e
  | 1, 0 => o12_apply m c s e
  | 1, 1 => o13_apply m c s e

/-- The right-going box holds the first two heads of the device, -/
theorem OR_apply (b : Fin 2) (s : Fin 256) (w : Fin 128) :
    OR m c (ix3 0 (row b s) w) = oH m c b ⟨w.val / 64, by omega⟩ s ⟨w.val % 64, by omega⟩ :=
  (glue_apply ![![o00 m c, o01 m c], ![o10 m c, o11 m c]] b s w).trans (right_apply m c b _ s _)

/-- the left-going box the other two. -/
theorem OL_apply (b : Fin 2) (s : Fin 256) (w : Fin 128) :
    OL m c (ix3 0 (row b s) w) = oH m c b ⟨2 + w.val / 64, by omega⟩ s ⟨w.val % 64, by omega⟩ :=
  (glue_apply ![![o02 m c, o03 m c], ![o12 m c, o13 m c]] b s w).trans (left_apply m c b _ s _)

/-! ## Projections -/

/-- An entry of a device's partial keys: its part of the latent times its rows of the keys' up projection. -/
theorem pK_apply (b : Fin 2) (s : Fin 256) (n : Fin 1024) :
    pK m c (ix2 (row b s) n) = lin (lin (fn3 (xV m c)) (fn2 (wdV m c))) (fn2 (wkV m c)) b s n := by
  pointwise [pK, k0_pay4, k0_pay3, k0_pay2, row, lin, fn2, fn3]

/-- An entry of a device's partial values: its part of the latent times its rows of the values' up projection. -/
theorem pV_apply (b : Fin 2) (s : Fin 256) (n : Fin 1024) :
    pV m c (ix2 (row b s) n) = lin (lin (fn3 (xV m c)) (fn2 (wdV m c))) (fn2 (wvV m c)) b s n := by
  pointwise [pV, k0_pay5, k0_pay3, k0_pay2, row, lin, fn2, fn3]

/-- An entry of a device's queries. -/
theorem qV_apply (b : Fin 2) (s : Fin 256) (n : Fin 256) :
    qV m c (ix2 (row b s) n) = lin (fn3 (xV m c)) (fn2 (wqV m c)) b s n := by
  pointwise [qV, k0_pay8, k0_pay2, row, lin, fn2, fn3]

/-- An entry of a device's rotary queries. -/
theorem qrV_apply (b : Fin 2) (s : Fin 256) (n : Fin 128) :
    qrV m c (ix2 (row b s) n) = lin (fn3 (xV m c)) (fn2 (wqrV m c)) b s n := by
  pointwise [qrV, k0_pay9, k0_pay2, row, lin, fn2, fn3]

/-- An entry of the rotary keys. -/
theorem krV_apply (b : Fin 2) (s : Fin 256) (n : Fin 32) :
    krV m c (ix2 (row b s) n) = lin (fn3 (xV m c)) (fn2 (wkrV m c)) b s n := by
  pointwise [krV, k0_pay10, k0_pay2, row, lin, fn2, fn3]

/-! ## The rings -/

/-- An entry of column chunk `j` of a device's partial sums. -/
theorem kch_apply (p : Vec Ideal S512x1024 .bf16) (j : Dev nD) (r : Fin 512) (w : Fin 256) :
    kch p j (ix2 r w) = p (ix2 r (blk (n := 256) rfl j w)) := by
  refine congrArg p (funext fun a => Fin.ext ?_)
  fin_cases a
  · show 0 + 1 * r.val = r.val
    omega
  · show 256 * j.val + 1 * w.val = 256 * j.val + w.val
    omega

/-- The terms of four devices, added while going round to the right, are the sum over all devices. -/
theorem sum_prv (f : Dev nD → EReal) (c : Dev nD) : f (prv (prv (prv c))) + f (prv (prv c)) + f (prv c) + f c = ∑ d : Fin 4, f d := by
  rw [Fin.sum_univ_four]
  match c with
  | 0 => show f 1 + f 2 + f 3 + f 0 = _; ac_rfl
  | 1 => show f 2 + f 3 + f 0 + f 1 = _; ac_rfl
  | 2 => show f 3 + f 0 + f 1 + f 2 = _; ac_rfl
  | 3 => show f 0 + f 1 + f 2 + f 3 = _; ac_rfl

/-- The terms of four devices, added while going round to the left, are the sum over all devices. -/
theorem sum_nxt (f : Dev nD → EReal) (c : Dev nD) : f (nxt (nxt (nxt c))) + f (nxt (nxt c)) + f (nxt c) + f c = ∑ d : Fin 4, f d := by
  rw [Fin.sum_univ_four]
  match c with
  | 0 => show f 3 + f 2 + f 1 + f 0 = _; ac_rfl
  | 1 => show f 0 + f 3 + f 2 + f 1 = _; ac_rfl
  | 2 => show f 1 + f 0 + f 3 + f 2 = _; ac_rfl
  | 3 => show f 2 + f 1 + f 0 + f 3 = _; ac_rfl

/-- Three places to the left is one to the right. -/
theorem prv3 (c : Dev nD) : prv (prv (prv c)) = nxt c := by revert c; decide
/-- Three places to the right is one to the left. -/
theorem nxt3 (c : Dev nD) : nxt (nxt (nxt c)) = prv c := by revert c; decide

/-- The summed keys of a device's head group: all devices' shares. -/
theorem kMy_apply (r : Fin 512) (w : Fin 256) :
    kMy m c (ix2 r w) = ∑ d : Fin 4, pK m d (ix2 r (blk (n := 256) rfl c w)) := by
  rw [← sum_prv (fun d => pK m d (ix2 r (blk (n := 256) rfl c w))) c]
  pointwise [kMy, kIn, kOwn, KS, k0_pay27, k0_pay24, k0_pay11, k0_pay6]
  simp only [kch_apply, prv3, prv_nxt, nxt_prv]

/-- and values. -/
theorem vMy_apply (r : Fin 512) (w : Fin 256) :
    vMy m c (ix2 r w) = ∑ d : Fin 4, pV m d (ix2 r (blk (n := 256) rfl c w)) := by
  rw [← sum_nxt (fun d => pV m d (ix2 r (blk (n := 256) rfl c w))) c]
  pointwise [vMy, vIn, vOwn, VS, k0_pay28, k0_pay26, k0_pay25, k0_pay13, k0_pay12, k0_pay7]
  simp only [kch_apply, nxt3, prv_nxt, nxt_prv]

/-- The output, as eight block products. -/
theorem outV_apply (b : Fin 2) (s : Fin 256) (o : Fin 1024) :
    outV m c (ix3 b s o) =
      ((∑ x, OR m c (ix3 0 (row b s) x) * woR0 m c (ix2 x o) + ∑ x, OL m c (ix3 0 (row b s) x) * woL0 m c (ix2 x o))
        + (∑ x, OR m (prv c) (ix3 0 (row b s) x) * woR1 m c (ix2 x o) + ∑ x, OL m (nxt c) (ix3 0 (row b s) x) * woL1 m c (ix2 x o))
        + (∑ x, OR m (prv (prv c)) (ix3 0 (row b s) x) * woR2 m c (ix2 x o)
          + ∑ x, OL m (nxt (nxt c)) (ix3 0 (row b s) x) * woL2 m c (ix2 x o))
        + ∑ x, OR m (prv (prv (prv c))) (ix3 0 (row b s) x) * woR3 m c (ix2 x o))
        + ∑ x, OL m (nxt (nxt (nxt c))) (ix3 0 (row b s) x) * woL3 m c (ix2 x o) := by
  pointwise [outV, acc4, acc3, acc2, acc1, agR, agL, k0_pay1, k0_pay53, k0_pay52, k0_pay51, k0_pay50, k0_pay49, k0_pay48, k0_pay47,
    k0_pay46, k0_pay45, k0_pay44, row]

end Cert.KernelIdeal.Val
-- ==== Proof.Value.Sum.lean ====
/-
The kernel's output is the layer of the global arrays, on every device.
-/
module

public import proofs.«01_k».proof.Proof.Value.Pay

@[expose] public section

noncomputable section

namespace Cert.KernelIdeal.Val

open Cert.KernelIdeal Cert.KernelIdeal.Gen Cert.KernelIdeal.Ring
open Idealize.ShloMosaic
open Cert.Val

variable (m : (ℓ : Loc nD τ sig) → Buf (Elt Ideal) ℓ)
variable (X : Fin 2 → Fin 256 → Fin 1024 → EReal) (D : Fin 1024 → Fin 256 → EReal) (UK UV : Fin 256 → Fin 1024 → EReal)
  (Q : Fin 1024 → Fin 1024 → EReal) (QR : Fin 1024 → Fin 512 → EReal) (KR : Fin 1024 → Fin 32 → EReal) (WO : Fin 1024 → Fin 1024 → EReal)

/-- What every device loads, in terms of the global arrays: the inputs and the rotary key weights whole, its own block
    of the compressing and expanding weights, its head group's columns of the query weights, rows of the output weights. -/
structure Loads : Prop where
  x : ∀ c b s d, xV m c (ix3 b s d) = X b s d
  d : ∀ c d j, wdV m c (ix2 d j) = D d (blk (n := 64) rfl c j)
  uk : ∀ c j n, wkV m c (ix2 j n) = UK (blk (n := 64) rfl c j) n
  uv : ∀ c j n, wvV m c (ix2 j n) = UV (blk (n := 64) rfl c j) n
  q : ∀ c d w, wqV m c (ix2 d w) = Q d (blk (n := 256) rfl c w)
  qr : ∀ c d w, wqrV m c (ix2 d w) = QR d (blk (n := 128) rfl c w)
  kr : ∀ c d e, wkrV m c (ix2 d e) = KR d e
  wo : ∀ c (e : Dev nD) (a : Fin 2) off inb (w : Fin 128) o, off = ![256 * e.val + 128 * a.val, 0] →
    woV m c off inb (ix2 w o) = WO (hblk e a w) o

/-- The global head number of a device's head. -/
def gh (c : Fin 4) (h : Fin 4) : Fin 16 := ⟨4 * c.val + h.val, by omega⟩

/-- A column of a device's four heads, among all columns. -/
theorem blk_col4 (c h : Fin 4) (e : Fin 64) : blk (n := 256) rfl c (col4 h e) = col (gh c h) e := by
  refine Fin.ext ?_
  show 256 * c.val + (h.val * 64 + e.val) = (4 * c.val + h.val) * 64 + e.val
  omega

/-- A rotary column of a device's four heads, among all rotary columns. -/
theorem blk_colR4 (c h : Fin 4) (e : Fin 32) : blk (n := 128) rfl c (colR4 h e) = colR (gh c h) e := by
  refine Fin.ext ?_
  show 128 * c.val + (h.val * 32 + e.val) = (4 * c.val + h.val) * 32 + e.val
  omega

variable {m X D UK UV Q QR KR WO}
variable (L : Loads m X D UK UV Q QR KR WO)
include L

/-- A device's queries are the global queries of its heads. -/
theorem q_eq (c : Dev nD) (b : Fin 2) (s : Fin 256) (h : Fin 4) (e : Fin 64) :
    qV m c (ix2 (row b s) (col4 h e)) = lin X Q b s (col (gh c h) e) := by
  rw [qV_apply, ← blk_col4]
  simp only [lin, fn2, fn3, L.x, L.q]

/-- A device's rotary queries are the global rotary queries of its heads. -/
theorem qr_eq (c : Dev nD) (b : Fin 2) (s : Fin 256) (h : Fin 4) (e : Fin 32) :
    qrV m c (ix2 (row b s) (colR4 h e)) = lin X QR b s (colR (gh c h) e) := by
  rw [qrV_apply, ← blk_colR4]
  simp only [lin, fn2, fn3, L.x, L.qr]

/-- A device's rotary keys are the global rotary keys. -/
theorem kr_eq (c : Dev nD) (b : Fin 2) (s : Fin 256) (e : Fin 32) :
    krV m c (ix2 (row b s) e) = lin X KR b s e := by
  rw [krV_apply]
  simp only [lin, fn2, fn3, L.x, L.kr]

/-- The keys a device ends with, added over all devices, are the global keys of its heads. -/
theorem k_eq (c : Dev nD) (b : Fin 2) (s : Fin 256) (h : Fin 4) (e : Fin 64) :
    kMy m c (ix2 (row b s) (col4 h e)) = lin (lin X D) UK b s (col (gh c h) e) := by
  rw [kMy_apply, blk_col4]
  simp only [pK_apply]
  simp only [lin, fn2, fn3, L.x, L.d, L.uk]
  exact (sum_blk (n := 64) rfl (fun j => (∑ d, X b s d * D d j) * UK j (col (gh c h) e))).symm

/-- The values a device ends with, added over all devices, are the global values of its heads. -/
theorem v_eq (c : Dev nD) (b : Fin 2) (s : Fin 256) (h : Fin 4) (e : Fin 64) :
    vMy m c (ix2 (row b s) (col4 h e)) = lin (lin X D) UV b s (col (gh c h) e) := by
  rw [vMy_apply, blk_col4]
  simp only [pV_apply]
  simp only [lin, fn2, fn3, L.x, L.d, L.uv]
  exact (sum_blk (n := 64) rfl (fun j => (∑ d, X b s d * D d j) * UV j (col (gh c h) e))).symm

/-- A device's head is the layer's head of its global number. -/
theorem oH_eq (c : Dev nD) (b : Fin 2) (h : Fin 4) : oH m c b h = heads X D UK UV Q QR KR b (gh c h) := by
  unfold oH khead heads
  simp only [q_eq L, k_eq L, qr_eq L, kr_eq L, v_eq L]

/-- A device's right-going box holds the outputs of its first two heads. -/
theorem right_eq (c : Dev nD) (b : Fin 2) (s : Fin 256) (w : Fin 128) :
    OR m c (ix3 0 (row b s) w) = heads X D UK UV Q QR KR b (hd (hblk c 0 w)) s (pos (hblk c 0 w)) := by
  rw [OR_apply, oH_eq L]
  have h1 : gh c ⟨w.val / 64, by omega⟩ = hd (hblk c 0 w) := Fin.ext (by
    show 4 * c.val + w.val / 64 = (256 * c.val + (128 * 0 + w.val)) / 64
    omega)
  have h2 : (⟨w.val % 64, by omega⟩ : Fin 64) = pos (hblk c 0 w) := Fin.ext (by
    show w.val % 64 = (256 * c.val + (128 * 0 + w.val)) % 64
    omega)
  rw [h1, h2]

/-- A device's left-going box holds the outputs of its last two heads. -/
theorem left_eq (c : Dev nD) (b : Fin 2) (s : Fin 256) (w : Fin 128) :
    OL m c (ix3 0 (row b s) w) = heads X D UK UV Q QR KR b (hd (hblk c 1 w)) s (pos (hblk c 1 w)) := by
  rw [OL_apply, oH_eq L]
  have h1 : gh c ⟨2 + w.val / 64, by omega⟩ = hd (hblk c 1 w) := Fin.ext (by
    show 4 * c.val + (2 + w.val / 64) = (256 * c.val + (128 * 1 + w.val)) / 64
    omega)
  have h2 : (⟨w.val % 64, by omega⟩ : Fin 64) = pos (hblk c 1 w) := Fin.ext (by
    show w.val % 64 = (256 * c.val + (128 * 1 + w.val)) % 64
    omega)
  rw [h1, h2]

/-- A right-going box times the rows of the output weights it meets; -/
theorem right_sum (c e : Dev nD) (b : Fin 2) (s : Fin 256) (o : Fin 1024) (off inb) (h : off = ![256 * e.val, 0]) :
    ∑ x, OR m e (ix3 0 (row b s) x) * woV m c off inb (ix2 x o)
      = ∑ w, heads X D UK UV Q QR KR b (hd (hblk e 0 w)) s (pos (hblk e 0 w)) * WO (hblk e 0 w) o :=
  Finset.sum_congr rfl fun w _ => congrArg₂ (· * ·) (right_eq L e b s w) (L.wo c e 0 off inb w o h)

/-- a left-going one. -/
theorem left_sum (c e : Dev nD) (b : Fin 2) (s : Fin 256) (o : Fin 1024) (off inb) (h : off = ![256 * e.val + 128, 0]) :
    ∑ x, OL m e (ix3 0 (row b s) x) * woV m c off inb (ix2 x o)
      = ∑ w, heads X D UK UV Q QR KR b (hd (hblk e 1 w)) s (pos (hblk e 1 w)) * WO (hblk e 1 w) o :=
  Finset.sum_congr rfl fun w _ => congrArg₂ (· * ·) (left_eq L e b s w) (L.wo c e 1 off inb w o h)

omit L in
/-- The boxes in the order they come by are all the boxes. -/
theorem sum_boxes (f g : Dev nD → EReal) (c : Dev nD) :
    ((f c + g c) + (f (prv c) + g (nxt c)) + (f (prv (prv c)) + g (nxt (nxt c))) + f (prv (prv (prv c)))) + g (nxt (nxt (nxt c)))
      = ∑ d : Fin 4, (f d + g d) := by
  rw [Finset.sum_add_distrib, ← sum_prv f c, ← sum_nxt g c]
  ac_rfl

omit L in
/-- The rows of the output weights each of the eight loads reads. -/
theorem offs : ∀ c : Dev nD,
    (k0_off9 c 0#32 0#32 = ![256 * c.val, 0] ∧ k0_off10 c 0#32 128#32 = ![256 * c.val + 128, 0])
    ∧ (k0_off9 c 1#32 0#32 = ![256 * (prv c).val, 0] ∧ k0_off10 c 1#32 128#32 = ![256 * (nxt c).val + 128, 0])
    ∧ (k0_off9 c 2#32 0#32 = ![256 * (prv (prv c)).val, 0] ∧ k0_off10 c 2#32 128#32 = ![256 * (nxt (nxt c)).val + 128, 0])
    ∧ (k0_off10 c 1#32 0#32 = ![256 * (prv (prv (prv c))).val, 0] ∧ k0_off9 c 1#32 128#32 = ![256 * (nxt (nxt (nxt c))).val + 128, 0]) := by
  decide +kernel

/-- Every device's output is the layer of the global arrays. -/
theorem outV_eq (c : Dev nD) (b : Fin 2) (s : Fin 256) (o : Fin 1024) :
    outV m c (ix3 b s o) = layer X D UK UV Q QR KR WO b s o := by
  obtain ⟨⟨h0, k0⟩, ⟨h1, k1⟩, ⟨h2, k2⟩, h3, k3⟩ := offs c
  rw [outV_apply]
  refine (congrArg₂ (· + ·) (congrArg₂ (· + ·) (congrArg₂ (· + ·) (congrArg₂ (· + ·)
    (congrArg₂ (· + ·) (right_sum L c _ b s o _ _ h0) (left_sum L c _ b s o _ _ k0))
    (congrArg₂ (· + ·) (right_sum L c _ b s o _ _ h1) (left_sum L c _ b s o _ _ k1)))
    (congrArg₂ (· + ·) (right_sum L c _ b s o _ _ h2) (left_sum L c _ b s o _ _ k2)))
    (right_sum L c _ b s o _ _ h3)) (left_sum L c _ b s o _ _ k3)).trans ?_
  refine (sum_boxes (fun d => ∑ w, heads X D UK UV Q QR KR b (hd (hblk d 0 w)) s (pos (hblk d 0 w)) * WO (hblk d 0 w) o)
    (fun d => ∑ w, heads X D UK UV Q QR KR b (hd (hblk d 1 w)) s (pos (hblk d 1 w)) * WO (hblk d 1 w) o) c).trans ?_
  exact (sum_hblk fun n => heads X D UK UV Q QR KR b (hd n) s (pos n) * WO n o).symm

end Cert.KernelIdeal.Val
-- ==== Proof.Value.Ref.lean ====
/-
The reference's result, entry by entry.
-/
module

public import proofs.«01_k».proof.Proof.Gen.ReferenceIdeal.Run
public import proofs.«01_k».proof.Proof.Value.Model
public import Idealize.ShloMosaic.Lib.Pointwise

@[expose] public section

noncomputable section

namespace Cert.ReferenceIdeal.Val

open Cert.ReferenceIdeal Cert.ReferenceIdeal.Gen Cert.ReferenceIdeal.Value
open Idealize.ShloMosaic
open Idealize.ShloMosaic.TcCoe
open Cert.Val

variable (m : (ℓ : Loc nD τ sig) → Buf (Elt Ideal) ℓ)

/-! ## The intermediate arrays -/

def aX : FVec Ideal S2x256x1024 .f32 := extf .f32 (m (((0 : Dev nD).tc : Thread nD τ).loc main_arg0)) bitsLt_bf16_f32
def aD : FVec Ideal S1024x256 .f32 := extf .f32 (m (((0 : Dev nD).tc : Thread nD τ).loc main_arg1)) bitsLt_bf16_f32
def aUK : FVec Ideal S256x1024 .f32 := extf .f32 (m (((0 : Dev nD).tc : Thread nD τ).loc main_arg2)) bitsLt_bf16_f32
def aUV : FVec Ideal S256x1024 .f32 := extf .f32 (m (((0 : Dev nD).tc : Thread nD τ).loc main_arg3)) bitsLt_bf16_f32
def aQ : FVec Ideal S1024x1024 .f32 := extf .f32 (m (((0 : Dev nD).tc : Thread nD τ).loc main_arg4)) bitsLt_bf16_f32
def aQR : FVec Ideal S1024x512 .f32 := extf .f32 (m (((0 : Dev nD).tc : Thread nD τ).loc main_arg5)) bitsLt_bf16_f32
def aKR : FVec Ideal S1024x32 .f32 := extf .f32 (m (((0 : Dev nD).tc : Thread nD τ).loc main_arg6)) bitsLt_bf16_f32
def aWO : FVec Ideal S1024x1024 .f32 := extf .f32 (m (((0 : Dev nD).tc : Thread nD τ).loc main_arg7)) bitsLt_bf16_f32

def rC : FVec Ideal S2x256x256 .f32 := Host.dotGeneral dot_S2x256x1024_S1024x256_S2x256x256_2_0_01_1_n_n none (aX m) (aD m)
def rK : FVec Ideal S2x256x16x64 .f32 :=
  shapeCast _ (Host.dotGeneral dot_S2x256x256_S256x1024_S2x256x1024_2_0_01_1_n_n none (rC m) (aUK m)) shapeCasts_S2x256x1024_S2x256x16x64
def rV : FVec Ideal S2x256x16x64 .f32 :=
  shapeCast _ (Host.dotGeneral dot_S2x256x256_S256x1024_S2x256x1024_2_0_01_1_n_n none (rC m) (aUV m)) shapeCasts_S2x256x1024_S2x256x16x64
def rQ : FVec Ideal S2x256x16x64 .f32 :=
  shapeCast _ (Host.dotGeneral dot_S2x256x1024_S1024x1024_S2x256x1024_2_0_01_1_n_n none (aX m) (aQ m)) shapeCasts_S2x256x1024_S2x256x16x64
def rQR : FVec Ideal S2x256x16x32 .f32 :=
  shapeCast _ (Host.dotGeneral dot_S2x256x1024_S1024x512_S2x256x512_2_0_01_1_n_n none (aX m) (aQR m)) shapeCasts_S2x256x512_S2x256x16x32
def rKR : FVec Ideal S2x256x16x32 .f32 :=
  broadcastInDim S2x256x16x32 ![0, 1, 2, 3] bcast_S2x256x1x32_S2x256x16x32_0_1_2_3
    (shapeCast S2x256x1x32 (Host.dotGeneral dot_S2x256x1024_S1024x32_S2x256x32_2_0_01_1_n_n none (aX m) (aKR m)) shapeCasts_S2x256x32_S2x256x1x32)
/-- The scaled scores, -/
def rS : FVec Ideal S2x16x256x256 .f32 :=
  mulf (addf (Host.dotGeneral dot_S2x256x16x64_S2x256x16x64_S2x16x256x256_3_3_1_1_02_02 none (rQ m) (rK m))
      (Host.dotGeneral dot_S2x256x16x32_S2x256x16x32_S2x16x256x256_3_3_1_1_02_02 none (rQR m) (rKR m)))
    (broadcastInDim S2x16x256x256 ![] bcast_S_S2x16x256x256 (constant S_ .f32 0x3DD105EC#32))
/-- their exponentials below the row's largest, -/
def rE : FVec Ideal S2x16x256x256 .f32 :=
  Host.exp (subf (rS m) (broadcastInDim S2x16x256x256 ![0, 1, 2, 3] bcast_S2x16x256x1_S2x16x256x256_0_1_2_3
    (broadcastInDim S2x16x256x1 ![0, 1, 2] bcast_S2x16x256_S2x16x256x1_0_1_2
      (Host.reduce FloatOps.maximumf (rS m) (constant S_ .f32 0xFF800000#32) reducesTo_S2x16x256x256_S2x16x256_d3 h_S_))))
/-- the weights, -/
def rP : FVec Ideal S2x16x256x256 .f32 :=
  Host.divf (rE m) (broadcastInDim S2x16x256x256 ![0, 1, 2, 3] bcast_S2x16x256x1_S2x16x256x256_0_1_2_3
    (broadcastInDim S2x16x256x1 ![0, 1, 2] bcast_S2x16x256_S2x16x256x1_0_1_2
      (Host.reduceAdd (rE m) (constant S_ .f32 0x00000000#32) reducesTo_S2x16x256x256_S2x16x256_d3 h_S_)))
/-- and the head outputs. -/
def rO : FVec Ideal S2x256x1024 .f32 :=
  shapeCast _ (transpose S2x256x16x64 [0, 3, 1, 2]
    (Host.dotGeneral dot_S2x256x16x64_S2x16x256x256_S2x16x64x256_1_3_3_2_02_01 none (rV m) (rP m)) transposes_S2x16x64x256_S2x256x16x64_0_3_1_2)
    shapeCasts_S2x256x16x64_S2x256x1024

set_option maxRecDepth 8192 in
/-- The reference's result is its head outputs times the output weights. -/
theorem res_eq : res_main_v37 m 0 = Host.dotGeneral dot_S2x256x1024_S1024x1024_S2x256x1024_2_0_01_1_n_n none (rO m) (aWO m) := rfl

set_option maxRecDepth 16384

/-! ## Their entries -/

/-- The keys, -/
theorem rK_apply (b : Fin 2) (s : Fin 256) (h : Fin 16) (e : Fin 64) :
    rK m (ix4 b s h e) = lin (lin (fn3 (aX m)) (fn2 (aD m))) (fn2 (aUK m)) b s (col h e) := by
  pointwise [rK, rC, lin, fn2, fn3, col]

/-- the values, -/
theorem rV_apply (b : Fin 2) (s : Fin 256) (h : Fin 16) (e : Fin 64) :
    rV m (ix4 b s h e) = lin (lin (fn3 (aX m)) (fn2 (aD m))) (fn2 (aUV m)) b s (col h e) := by
  pointwise [rV, rC, lin, fn2, fn3, col]

/-- the queries, -/
theorem rQ_apply (b : Fin 2) (s : Fin 256) (h : Fin 16) (e : Fin 64) :
    rQ m (ix4 b s h e) = lin (fn3 (aX m)) (fn2 (aQ m)) b s (col h e) := by
  pointwise [rQ, lin, fn2, fn3, col]

/-- the rotary queries -/
theorem rQR_apply (b : Fin 2) (s : Fin 256) (h : Fin 16) (e : Fin 32) :
    rQR m (ix4 b s h e) = lin (fn3 (aX m)) (fn2 (aQR m)) b s (colR h e) := by
  pointwise [rQR, lin, fn2, fn3, colR]

/-- and the rotary keys, shared by the heads; -/
theorem rKR_apply (b : Fin 2) (s : Fin 256) (h : Fin 16) (e : Fin 32) :
    rKR m (ix4 b s h e) = lin (fn3 (aX m)) (fn2 (aKR m)) b s e := by
  pointwise [rKR, lin, fn2, fn3]

/-- the scores of a head, -/
theorem rS_apply (b : Fin 2) (h : Fin 16) (s t : Fin 256) :
    rS m (ix4 b h s t) = score (fun s e => rQ m (ix4 b s h e)) (fun t e => rK m (ix4 b t h e))
      (fun s e => rQR m (ix4 b s h e)) (fun t e => rKR m (ix4 b t h e)) s t := by
  pointwise [rS, score]

/-- their exponentials, -/
theorem rE_apply (b : Fin 2) (h : Fin 16) (s t : Fin 256) :
    rE m (ix4 b h s t) = expo (fun s t => rS m (ix4 b h s t)) s t := by
  pointwise [rE, expo]

/-- the weights -/
theorem rP_apply (b : Fin 2) (h : Fin 16) (s t : Fin 256) :
    rP m (ix4 b h s t) = Ideal.div (rE m (ix4 b h s t)) (∑ u : Fin 256, rE m (ix4 b h s u)) := by
  pointwise [rP]

/-- and the weighted values. -/
theorem rO_apply (b : Fin 2) (s : Fin 256) (n : Fin 1024) :
    rO m (ix3 b s n) = ∑ t : Fin 256, rV m (ix4 b t (hd n) (pos n)) * rP m (ix4 b (hd n) s t) := by
  pointwise [rO, hd, pos]

/-- The reference computes the layer of its arguments. -/
theorem res_apply (b : Fin 2) (s : Fin 256) (o : Fin 1024) :
    res_main_v37 m 0 (ix3 b s o) =
      layer (fn3 (aX m)) (fn2 (aD m)) (fn2 (aUK m)) (fn2 (aUV m)) (fn2 (aQ m)) (fn2 (aQR m)) (fn2 (aKR m)) (fn2 (aWO m)) b s o := by
  have h1 : @Eq EReal (res_main_v37 m 0 (ix3 b s o)) (∑ n : Fin 1024, rO m (ix3 b s n) * aWO m (ix2 n o)) := by
    rw [res_eq]
    pointwise []
  refine h1.trans (Finset.sum_congr rfl fun n _ => congrArg₂ (· * ·) ?_ rfl)
  rw [rO_apply]
  simp only [rP_apply, rE_apply, rS_apply, rV_apply, rQ_apply, rK_apply, rQR_apply, rKR_apply]
  rfl

end Cert.ReferenceIdeal.Val
-- ==== Proof.Value.Final.lean ====
/-
What the devices load, from the relation between the kernel's and the reference's arguments; and the two results equal.
-/
module

public import proofs.«01_k».proof.Proof.Value.Sum
public import proofs.«01_k».proof.Proof.Value.Ref
public import Idealize.ShloMosaic.Lib.Layout
public import Idealize.ShloMosaic.Lib.Pipeline.ValueKit
public import Idealize.ShloMosaic.Lib.Claim

@[expose] public section

noncomputable section

namespace Cert.KernelIdeal.Val

open Cert.KernelIdeal Cert.KernelIdeal.Gen Cert.KernelIdeal.Ring
open Idealize.ShloMosaic
open Idealize.ShloMosaic.TcCoe
open Cert.Val

variable (m : (ℓ : Loc nD τ sig) → Buf (Elt Ideal) ℓ) (c : Dev nD)

/-! ## The loads, as entries of the device's arguments -/

/-- A load through a rectangle of a whole staging buffer reads the entry at the offset place. -/
theorem read_unit {n0 n1 k0 k1 : ℕ} {e : EltTy} (A : (⟨2, ![n0, n1]⟩ : Shape).Idx → Elt Ideal e) (off : Fin 2 → ℕ)
    (inb : ∀ a, off a + (⟨2, ![k0, k1]⟩ : Shape).size a ≤ (⟨2, ![n0, n1]⟩ : Shape).size a) (i : Fin k0) (j : Fin k1)
    (i' : Fin n0) (j' : Fin n1) (hi : i'.val = off 0 + i.val) (hj : j'.val = off 1 + j.val) :
    A ((Rect.unit (s := ⟨2, ![n0, n1]⟩) off (⟨2, ![k0, k1]⟩ : Shape).size inb).emb (ix2 i j)) = A (ix2 i' j') := by
  refine congrArg A (funext fun a => Fin.ext ?_)
  fin_cases a
  · show off 0 + 1 * i.val = i'.val
    omega
  · show off 1 + 1 * j.val = j'.val
    omega

/-- Every window's block index at the one point. -/
theorem idx : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- The staged activations are the first argument. -/
theorem xC_eq : xC m c = m ((c.tc : Thread nD τ).loc main_arg0) := by
  unfold xC
  blk_ext! [iblk, V, idx t0_0]
/-- The staged down projection is the second argument. -/
theorem wdC_eq : wdC m c = m ((c.tc : Thread nD τ).loc main_arg1) := by
  unfold wdC
  blk_ext! [iblk, V, idx t0_0]
/-- The staged up projection of the keys is the third argument. -/
theorem wkC_eq : wkC m c = m ((c.tc : Thread nD τ).loc main_arg2) := by
  unfold wkC
  blk_ext! [iblk, V, idx t0_0]
/-- The staged up projection of the values is the fourth argument. -/
theorem wvC_eq : wvC m c = m ((c.tc : Thread nD τ).loc main_arg3) := by
  unfold wvC
  blk_ext! [iblk, V, idx t0_0]
/-- The staged query weights are the fifth argument. -/
theorem wqC_eq : wqC m c = m ((c.tc : Thread nD τ).loc main_arg4) := by
  unfold wqC
  blk_ext! [iblk, V, idx t0_0]
/-- The staged rotary query weights are the sixth argument. -/
theorem wqrC_eq : wqrC m c = m ((c.tc : Thread nD τ).loc main_arg5) := by
  unfold wqrC
  blk_ext! [iblk, V, idx t0_0]
/-- The staged rotary key weights are the seventh argument. -/
theorem wkrC_eq : wkrC m c = m ((c.tc : Thread nD τ).loc main_arg6) := by
  unfold wkrC
  blk_ext! [iblk, V, idx t0_0]
/-- The staged output weights are the eighth argument. -/
theorem woC_eq : woC m c = m ((c.tc : Thread nD τ).loc main_arg7) := by
  unfold woC
  blk_ext! [iblk, V, idx t0_0]

/-- The activations as loaded are the first argument. -/
theorem xV_eq : xV m c = m ((c.tc : Thread nD τ).loc main_arg0) :=
  (View.readAt_full (Memref.whole cc0_stg0_0).view (xC m c) _).trans (xC_eq m c)
/-- The down projection as loaded is the second argument. -/
theorem wdV_eq : wdV m c = m ((c.tc : Thread nD τ).loc main_arg1) :=
  (View.readAt_full (Memref.whole cc0_stg1_0).view (wdC m c) _).trans (wdC_eq m c)
/-- The keys' up projection as loaded is the third argument. -/
theorem wkV_eq : wkV m c = m ((c.tc : Thread nD τ).loc main_arg2) :=
  (View.readAt_full (Memref.whole cc0_stg2_0).view (wkC m c) _).trans (wkC_eq m c)
/-- The values' up projection as loaded is the fourth argument. -/
theorem wvV_eq : wvV m c = m ((c.tc : Thread nD τ).loc main_arg3) :=
  (View.readAt_full (Memref.whole cc0_stg3_0).view (wvC m c) _).trans (wvC_eq m c)
/-- The rotary key weights as loaded are the seventh argument. -/
theorem wkrV_eq : wkrV m c = m ((c.tc : Thread nD τ).loc main_arg6) :=
  (View.readAt_full (Memref.whole cc0_stg6_0).view (wkrC m c) _).trans (wkrC_eq m c)

/-- The query weights a device computes with are its 256 columns of the fifth argument. -/
theorem wqV_apply (d : Fin 1024) (w : Fin 256) : wqV m c (ix2 d w) = m ((c.tc : Thread nD τ).loc main_arg4) (ix2 d (blk (n := 256) rfl c w)) := by
  have h := k0_off3_eq c
  rw [← wqC_eq m c]
  exact read_unit (wqC m c) (k0_off3 c) (k0_off3_inb c) d w d (blk (n := 256) rfl c w) (by rw [h]; exact (Nat.zero_add _).symm) (by rw [h]; rfl)

/-- The rotary query weights a device computes with are its 128 columns of the sixth argument. -/
theorem wqrV_apply (d : Fin 1024) (w : Fin 128) : wqrV m c (ix2 d w) = m ((c.tc : Thread nD τ).loc main_arg5) (ix2 d (blk (n := 128) rfl c w)) := by
  have h := k0_off4_eq c
  rw [← wqrC_eq m c]
  exact read_unit (wqrC m c) (k0_off4 c) (k0_off4_inb c) d w d (blk (n := 128) rfl c w) (by rw [h]; exact (Nat.zero_add _).symm) (by rw [h]; rfl)

/-- A loaded block of 128 rows of the output weights is those rows of the eighth argument. -/
theorem woV_apply (e : Fin 4) (a : Fin 2) (off inb) (w : Fin 128) (o : Fin 1024) (h : off = ![256 * e.val + 128 * a.val, 0]) :
    woV m c off inb (ix2 w o) = m ((c.tc : Thread nD τ).loc main_arg7) (ix2 (hblk e a w) o) := by
  rw [← woC_eq m c]
  exact read_unit (woC m c) off inb w o (hblk e a w) o (by rw [h]; exact (Nat.add_assoc _ _ _).symm) (by rw [h]; exact (Nat.zero_add _).symm)

/-! ## Blocks of the global arrays -/

/-- A device's shard by columns has the device's 64 columns. -/
theorem block_cols (v : (⟨2, ![1024, 256]⟩ : Shape).Idx → EReal) (d : Fin 1024) (j : Fin 64) :
    (Layout.block ⟨2, ![1024, 64]⟩ ⟨2, ![1024, 256]⟩ 1 4 c v) (ix2 d j) = v (ix2 d (blk (n := 64) rfl c j)) := by
  refine congrArg v (funext fun a => Fin.ext ?_)
  fin_cases a
  · rfl
  · show c.val * 64 + j.val = 64 * c.val + j.val
    omega

/-- A device's shard by rows has the device's 64 rows. -/
theorem block_rows (v : (⟨2, ![256, 1024]⟩ : Shape).Idx → EReal) (j : Fin 64) (n : Fin 1024) :
    (Layout.block ⟨2, ![64, 1024]⟩ ⟨2, ![256, 1024]⟩ 0 4 c v) (ix2 j n) = v (ix2 (blk (n := 64) rfl c j) n) := by
  refine congrArg v (funext fun a => Fin.ext ?_)
  fin_cases a
  · show c.val * 64 + j.val = 64 * c.val + j.val
    omega
  · rfl

/-! ## The two results -/

/-- Arguments that are the blocks, or the whole, of global arrays are loaded as `Loads` says. -/
theorem loads (a0 : (⟨3, ![2, 256, 1024]⟩ : Shape).Idx → EReal) (a1 : (⟨2, ![1024, 256]⟩ : Shape).Idx → EReal)
    (a2 a3 : (⟨2, ![256, 1024]⟩ : Shape).Idx → EReal) (a4 : (⟨2, ![1024, 1024]⟩ : Shape).Idx → EReal)
    (a5 : (⟨2, ![1024, 512]⟩ : Shape).Idx → EReal) (a6 : (⟨2, ![1024, 32]⟩ : Shape).Idx → EReal)
    (a7 : (⟨2, ![1024, 1024]⟩ : Shape).Idx → EReal)
    (h : ∀ c : Dev nD, m ((c.tc : Thread nD τ).loc main_arg0) = a0
      ∧ m ((c.tc : Thread nD τ).loc main_arg1) = Layout.block ⟨2, ![1024, 64]⟩ ⟨2, ![1024, 256]⟩ 1 4 c a1
      ∧ m ((c.tc : Thread nD τ).loc main_arg2) = Layout.block ⟨2, ![64, 1024]⟩ ⟨2, ![256, 1024]⟩ 0 4 c a2
      ∧ m ((c.tc : Thread nD τ).loc main_arg3) = Layout.block ⟨2, ![64, 1024]⟩ ⟨2, ![256, 1024]⟩ 0 4 c a3
      ∧ m ((c.tc : Thread nD τ).loc main_arg4) = a4
      ∧ m ((c.tc : Thread nD τ).loc main_arg5) = a5
      ∧ m ((c.tc : Thread nD τ).loc main_arg6) = a6
      ∧ m ((c.tc : Thread nD τ).loc main_arg7) = a7) :
    Loads m (fn3 a0) (fn2 a1) (fn2 a2) (fn2 a3) (fn2 a4) (fn2 a5) (fn2 a6) (fn2 a7) where
  x c b s d := by rw [xV_eq, (h c).1]; rfl
  d c d j := by rw [wdV_eq, (h c).2.1]; exact block_cols c a1 d j
  uk c j n := by rw [wkV_eq, (h c).2.2.1]; exact block_rows c a2 j n
  uv c j n := by rw [wvV_eq, (h c).2.2.2.1]; exact block_rows c a3 j n
  q c d w := by rw [wqV_apply, (h c).2.2.2.2.1]; rfl
  qr c d w := by rw [wqrV_apply, (h c).2.2.2.2.2.1]; rfl
  kr c d e := by rw [wkrV_eq, (h c).2.2.2.2.2.2.1]; rfl
  wo c e a off inb w o ho := by rw [woV_apply m c e a off inb w o ho, (h c).2.2.2.2.2.2.2]; rfl

/-- Every device's output is the reference's result. -/
theorem outV_eq_res (m' : (ℓ : Loc Cert.ReferenceIdeal.nD Cert.ReferenceIdeal.τ Cert.ReferenceIdeal.sig) → Buf (Elt Ideal) ℓ)
    (L : Loads m (fn3 (ReferenceIdeal.Val.aX m')) (fn2 (ReferenceIdeal.Val.aD m')) (fn2 (ReferenceIdeal.Val.aUK m'))
      (fn2 (ReferenceIdeal.Val.aUV m')) (fn2 (ReferenceIdeal.Val.aQ m')) (fn2 (ReferenceIdeal.Val.aQR m'))
      (fn2 (ReferenceIdeal.Val.aKR m')) (fn2 (ReferenceIdeal.Val.aWO m'))) :
    outV m c = ReferenceIdeal.Value.res_main_v37 m' 0 := by
  funext y
  obtain ⟨b, s, o, rfl⟩ : ∃ (b : Fin 2) (s : Fin 256) (o : Fin 1024), y = ix3 b s o :=
    ⟨y 0, y 1, y 2, funext fun a => by fin_cases a <;> rfl⟩
  exact (outV_eq L c b s o).trans (ReferenceIdeal.Val.res_apply m' b s o).symm

end Cert.KernelIdeal.Val
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RingI.LaunchC
public import proofs.«01_k».proof.Proof.Value.Final
public import proofs.«01_k».proof.Proof.RingK.LaunchC
public import Idealize.ShloMosaic.Adequacy
public import Idealize.ShloMosaic.Init

@[expose] public section

noncomputable section

namespace Cert.Proof

open Idealize.ShloMosaic Idealize.SL.Sem

/-- The kernel runs, leaves its arguments as they were and every counter at zero; -/
theorem frame_p : Cert.quiescent_Kernel (hKernel := Cert.Kernel.Gen.facts) := fun m ρ _ =>
  (θ_run Cert.Kernel.defs _ _).mono (fun _ h => ⟨fun c => (h.1 c).2, h.2⟩) (Cert.Kernel.Ring.run_value (F := Bits) m ρ)

/-- so it does over the extended reals; -/
theorem frame_i : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Ring.run_value (F := Ideal) m ρ)

/-- and so does the reference, which declares no semaphore. -/
theorem frame_r : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Cert.ReferenceIdeal.Value.run (F := Ideal) m ρ)

/-- The kernel's result on every device is the reference's result, whatever the arguments. -/
theorem algebraic : Cert.algebraic_KernelIdeal_ReferenceIdeal (hKernelIdeal := Cert.KernelIdeal.Gen.facts)
    (hReferenceIdeal := Cert.ReferenceIdeal.Gen.facts) := fun m g m' g' _ h => by
  refine ⟨Cert.ReferenceIdeal.Value.res_main_v37 m' 0, ?_, ?_⟩
  · refine (θ_run Cert.KernelIdeal.defs _ _).mono (fun r hr c => ⟨?_, (hr.1 c).2⟩) (Cert.KernelIdeal.Ring.run_value (F := Ideal) m g)
    exact (hr.1 c).1.trans (Cert.KernelIdeal.Val.outV_eq_res m c m' (Cert.KernelIdeal.Val.loads m _ _ _ _ _ _ _ _ h))
  · exact (θ_run Cert.ReferenceIdeal.defs _ _).mono (fun r hr => hr 0) (Cert.ReferenceIdeal.Value.run (F := Ideal) m' g')

/-- All the claims together. -/
theorem claim : Cert.Claim := ⟨Cert.Kernel.Gen.facts, Cert.KernelIdeal.Gen.facts, Cert.ReferenceIdeal.Gen.facts,
  frame_p, frame_i, frame_r, trivial, algebraic⟩

end Cert.Proof

end
